-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2684354 : Shape := ⟨2, ![2, 2684354]⟩
abbrev S2684354 : Shape := ⟨1, ![2684354]⟩
abbrev S98304 : Shape := ⟨1, ![98304]⟩
abbrev S524288 : Shape := ⟨1, ![524288]⟩
abbrev S16384 : Shape := ⟨1, ![16384]⟩
abbrev S2x524288 : Shape := ⟨2, ![2, 524288]⟩

abbrev nBuf : Space → Nat
  | .hbm => 5
  | .vmem => 10
  | .smem => 0
  | _ => 0

abbrev bufTy : (tb : Table) → Fin (tcTables nBuf tb) → BufTy
  | .hbm, ⟨0, _⟩ => ⟨S2x2684354, .i32⟩
  | .hbm, ⟨1, _⟩ => ⟨S2684354, .f32⟩
  | .hbm, ⟨2, _⟩ => ⟨S98304, .i32⟩
  | .hbm, ⟨3, _⟩ => ⟨S2684354, .f32⟩
  | .hbm, ⟨4, _⟩ => ⟨S2x2684354, .i32⟩
  | .local _ .vmem, ⟨0, _⟩ => ⟨S524288, .f32⟩
  | .local _ .vmem, ⟨1, _⟩ => ⟨S524288, .f32⟩
  | .local _ .vmem, ⟨2, _⟩ => ⟨S16384, .i32⟩
  | .local _ .vmem, ⟨3, _⟩ => ⟨S16384, .i32⟩
  | .local _ .vmem, ⟨4, _⟩ => ⟨S2x524288, .i32⟩
  | .local _ .vmem, ⟨5, _⟩ => ⟨S2x524288, .i32⟩
  | .local _ .vmem, ⟨6, _⟩ => ⟨S524288, .f32⟩
  | .local _ .vmem, ⟨7, _⟩ => ⟨S524288, .f32⟩
  | .local _ .vmem, ⟨8, _⟩ => ⟨S2x524288, .i32⟩
  | .local _ .vmem, ⟨9, _⟩ => ⟨S2x524288, .i32⟩
  | _, _ => ⟨S2x2684354, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S524288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x524288 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S524288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x524288 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x2684354 : Shape := ⟨2, ![2, 2684354]⟩
abbrev S2684354 : Shape := ⟨1, ![2684354]⟩
abbrev S_ : Shape := ⟨0, ![]⟩
abbrev S1 : Shape := ⟨1, ![1]⟩
abbrev S2 : Shape := ⟨1, ![2]⟩

abbrev nBuf : Space → Nat
  | .hbm => 279
  | .vmem => 0
  | .smem => 0
  | _ => 0

abbrev hbmTy0_0 (i : Nat) : BufTy := match i % 128 with
  | 0 => ⟨S2x2684354, .i32⟩
  | 1 => ⟨S2684354, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .i32⟩
  | 19 => ⟨S_, .i32⟩
  | 20 => ⟨S1, .i32⟩
  | 21 => ⟨S_, .i32⟩
  | 22 => ⟨S2684354, .i64⟩
  | 23 => ⟨S_, .i64⟩
  | 24 => ⟨S2684354, .i64⟩
  | 25 => ⟨S2684354, .i64⟩
  | 26 => ⟨S_, .i64⟩
  | 27 => ⟨S2684354, .i64⟩
  | 28 => ⟨S2684354, .i64⟩
  | 29 => ⟨S2684354, .i32⟩
  | 30 => ⟨S2684354, .i32⟩
  | 31 => ⟨S_, .i32⟩
  | 32 => ⟨S_, .i32⟩
  | 33 => ⟨S_, .i32⟩
  | 34 => ⟨S2684354, .i32⟩
  | 35 => ⟨S2684354, .i32⟩
  | 36 => ⟨S2684354, .i32⟩
  | 37 => ⟨S2684354, .i32⟩
  | 38 => ⟨S2684354, .i32⟩
  | 39 => ⟨S_, .i32⟩
  | 40 => ⟨S2684354, .i32⟩
  | 41 => ⟨S2684354, .i32⟩
  | 42 => ⟨S_, .i32⟩
  | 43 => ⟨S2684354, .i32⟩
  | 44 => ⟨S2684354, .i32⟩
  | 45 => ⟨S2684354, .i32⟩
  | 46 => ⟨S2684354, .i32⟩
  | 47 => ⟨S2684354, .i32⟩
  | 48 => ⟨S_, .i32⟩
  | 49 => ⟨S2684354, .i32⟩
  | 50 => ⟨S2684354, .i32⟩
  | 51 => ⟨S_, .i32⟩
  | 52 => ⟨S2684354, .i32⟩
  | 53 => ⟨S2684354, .i32⟩
  | 54 => ⟨S2684354, .i32⟩
  | 55 => ⟨S2684354, .i32⟩
  | 56 => ⟨S2684354, .i32⟩
  | 57 => ⟨S_, .i32⟩
  | 58 => ⟨S2684354, .i32⟩
  | 59 => ⟨S2684354, .i32⟩
  | 60 => ⟨S_, .i32⟩
  | 61 => ⟨S2684354, .i32⟩
  | 62 => ⟨S2684354, .i32⟩
  | 63 => ⟨S2684354, .i32⟩
  | 64 => ⟨S2684354, .i32⟩
  | 65 => ⟨S2684354, .i32⟩
  | 66 => ⟨S_, .i32⟩
  | 67 => ⟨S2684354, .i32⟩
  | 68 => ⟨S2684354, .i32⟩
  | 69 => ⟨S_, .i32⟩
  | 70 => ⟨S2684354, .i32⟩
  | 71 => ⟨S2684354, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S_, .i32⟩
  | 79 => ⟨S2684354, .i32⟩
  | 80 => ⟨S2684354, .i32⟩
  | 81 => ⟨S2684354, .i32⟩
  | 82 => ⟨S_, .i32⟩
  | 83 => ⟨S2684354, .i32⟩
  | 84 => ⟨S2684354, .i32⟩
  | 85 => ⟨S_, .i32⟩
  | 86 => ⟨S2684354, .i32⟩
  | 87 => ⟨S2684354, .i32⟩
  | 88 => ⟨S2684354, .i32⟩
  | 89 => ⟨S2684354, .i32⟩
  | 90 => ⟨S2684354, .i32⟩
  | 91 => ⟨S_, .i32⟩
  | 92 => ⟨S2684354, .i32⟩
  | 93 => ⟨S2684354, .i32⟩
  | 94 => ⟨S_, .i32⟩
  | 95 => ⟨S2684354, .i32⟩
  | 96 => ⟨S2684354, .i32⟩
  | 97 => ⟨S2684354, .i32⟩
  | 98 => ⟨S2684354, .i32⟩
  | 99 => ⟨S2684354, .i32⟩
  | 100 => ⟨S_, .i32⟩
  | 101 => ⟨S2684354, .i32⟩
  | 102 => ⟨S2684354, .i32⟩
  | 103 => ⟨S_, .i32⟩
  | 104 => ⟨S2684354, .i32⟩
  | 105 => ⟨S2684354, .i32⟩
  | 106 => ⟨S2684354, .i32⟩
  | 107 => ⟨S2684354, .i32⟩
  | 108 => ⟨S2684354, .i32⟩
  | 109 => ⟨S_, .i32⟩
  | 110 => ⟨S2684354, .i32⟩
  | 111 => ⟨S2684354, .i32⟩
  | 112 => ⟨S_, .i32⟩
  | 113 => ⟨S2684354, .i32⟩
  | 114 => ⟨S2684354, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S_, .i32⟩
  | 122 => ⟨S2684354, .i32⟩
  | 123 => ⟨S2684354, .i32⟩
  | 124 => ⟨S2684354, .i32⟩
  | 125 => ⟨S_, .i32⟩
  | 126 => ⟨S2684354, .i32⟩
  | 127 => ⟨S2684354, .i32⟩
  | _ => ⟨S2x2684354, .i32⟩

abbrev hbmTy0_1 (i : Nat) : BufTy := match i % 128 with
  | 0 => ⟨S_, .i32⟩
  | 1 => ⟨S2684354, .i32⟩
  | 2 => ⟨S2684354, .i32⟩
  | 3 => ⟨S2684354, .i32⟩
  | 4 => ⟨S2684354, .i32⟩
  | 5 => ⟨S2684354, .i32⟩
  | 6 => ⟨S_, .i32⟩
  | 7 => ⟨S2684354, .i32⟩
  | 8 => ⟨S2684354, .i32⟩
  | 9 => ⟨S_, .i32⟩
  | 10 => ⟨S2684354, .i32⟩
  | 11 => ⟨S2684354, .i32⟩
  | 12 => ⟨S2684354, .i32⟩
  | 13 => ⟨S2684354, .i32⟩
  | 14 => ⟨S2684354, .i32⟩
  | 15 => ⟨S_, .i32⟩
  | 16 => ⟨S2684354, .i32⟩
  | 17 => ⟨S2684354, .i32⟩
  | 18 => ⟨S_, .i32⟩
  | 19 => ⟨S2684354, .i32⟩
  | 20 => ⟨S2684354, .i32⟩
  | 21 => ⟨S2684354, .i32⟩
  | 22 => ⟨S2684354, .i32⟩
  | 23 => ⟨S2684354, .i32⟩
  | 24 => ⟨S_, .i32⟩
  | 25 => ⟨S2684354, .i32⟩
  | 26 => ⟨S2684354, .i32⟩
  | 27 => ⟨S_, .i32⟩
  | 28 => ⟨S2684354, .i32⟩
  | 29 => ⟨S2684354, .i32⟩
  | 30 => ⟨S2684354, .i32⟩
  | 31 => ⟨S2684354, .i32⟩
  | 32 => ⟨S2684354, .i32⟩
  | 33 => ⟨S2684354, .i32⟩
  | 34 => ⟨S2684354, .i32⟩
  | 35 => ⟨S2684354, .i32⟩
  | 36 => ⟨S_, .i32⟩
  | 37 => ⟨S2684354, .i32⟩
  | 38 => ⟨S2684354, .i32⟩
  | 39 => ⟨S2684354, .i32⟩
  | 40 => ⟨S_, .i32⟩
  | 41 => ⟨S2684354, .i32⟩
  | 42 => ⟨S2684354, .i32⟩
  | 43 => ⟨S_, .i32⟩
  | 44 => ⟨S2684354, .i32⟩
  | 45 => ⟨S2684354, .i32⟩
  | 46 => ⟨S2684354, .i32⟩
  | 47 => ⟨S2684354, .i32⟩
  | 48 => ⟨S2684354, .i32⟩
  | 49 => ⟨S_, .i32⟩
  | 50 => ⟨S2684354, .i32⟩
  | 51 => ⟨S2684354, .i32⟩
  | 52 => ⟨S_, .i32⟩
  | 53 => ⟨S2684354, .i32⟩
  | 54 => ⟨S2684354, .i32⟩
  | 55 => ⟨S2684354, .i32⟩
  | 56 => ⟨S2684354, .i32⟩
  | 57 => ⟨S2684354, .i32⟩
  | 58 => ⟨S_, .i32⟩
  | 59 => ⟨S2684354, .i32⟩
  | 60 => ⟨S2684354, .i32⟩
  | 61 => ⟨S_, .i32⟩
  | 62 => ⟨S2684354, .i32⟩
  | 63 => ⟨S2684354, .i32⟩
  | 64 => ⟨S2684354, .i32⟩
  | 65 => ⟨S2684354, .i32⟩
  | 66 => ⟨S2684354, .i32⟩
  | 67 => ⟨S_, .i32⟩
  | 68 => ⟨S2684354, .i32⟩
  | 69 => ⟨S2684354, .i32⟩
  | 70 => ⟨S_, .i32⟩
  | 71 => ⟨S2684354, .i32⟩
  | 72 => ⟨S2684354, .i32⟩
  | 73 => ⟨S2684354, .i32⟩
  | 74 => ⟨S2684354, .i32⟩
  | 75 => ⟨S2684354, .i32⟩
  | 76 => ⟨S2684354, .i32⟩
  | 77 => ⟨S2684354, .i32⟩
  | 78 => ⟨S2684354, .i32⟩
  | 79 => ⟨S_, .i32⟩
  | 80 => ⟨S2684354, .i32⟩
  | 81 => ⟨S2684354, .i32⟩
  | 82 => ⟨S2684354, .i32⟩
  | 83 => ⟨S_, .i32⟩
  | 84 => ⟨S2684354, .i32⟩
  | 85 => ⟨S2684354, .i32⟩
  | 86 => ⟨S_, .i32⟩
  | 87 => ⟨S2684354, .i32⟩
  | 88 => ⟨S2684354, .i32⟩
  | 89 => ⟨S2684354, .i32⟩
  | 90 => ⟨S2684354, .i32⟩
  | 91 => ⟨S2684354, .i32⟩
  | 92 => ⟨S_, .i32⟩
  | 93 => ⟨S2684354, .i32⟩
  | 94 => ⟨S2684354, .i32⟩
  | 95 => ⟨S_, .i32⟩
  | 96 => ⟨S2684354, .i32⟩
  | 97 => ⟨S2684354, .i32⟩
  | 98 => ⟨S2684354, .i32⟩
  | 99 => ⟨S2684354, .i32⟩
  | 100 => ⟨S2684354, .i32⟩
  | 101 => ⟨S_, .i32⟩
  | 102 => ⟨S2684354, .i32⟩
  | 103 => ⟨S2684354, .i32⟩
  | 104 => ⟨S_, .i32⟩
  | 105 => ⟨S2684354, .i32⟩
  | 106 => ⟨S2684354, .i32⟩
  | 107 => ⟨S2684354, .i32⟩
  | 108 => ⟨S2684354, .i32⟩
  | 109 => ⟨S2684354, .i32⟩
  | 110 => ⟨S_, .i32⟩
  | 111 => ⟨S2684354, .i32⟩
  | 112 => ⟨S2684354, .i32⟩
  | 113 => ⟨S_, .i32⟩
  | 114 => ⟨S2684354, .i32⟩
  | 115 => ⟨S2684354, .i32⟩
  | 116 => ⟨S2684354, .i32⟩
  | 117 => ⟨S2684354, .i32⟩
  | 118 => ⟨S2684354, .i32⟩
  | 119 => ⟨S2684354, .i32⟩
  | 120 => ⟨S2684354, .i32⟩
  | 121 => ⟨S2684354, .i32⟩
  | 122 => ⟨S_, .i32⟩
  | 123 => ⟨S2684354, .i32⟩
  | 124 => ⟨S2684354, .i32⟩
  | 125 => ⟨S2684354, .i32⟩
  | 126 => ⟨S_, .i32⟩
  | 127 => ⟨S2684354, .i32⟩
  | _ => ⟨S2x2684354, .i32⟩

abbrev hbmTy0_2 (i : Nat) : BufTy := match i % 128 with
  | 0 => ⟨S2684354, .i32⟩
  | 1 => ⟨S_, .i32⟩
  | 2 => ⟨S2684354, .i32⟩
  | 3 => ⟨S2684354, .i32⟩
  | 4 => ⟨S2684354, .f32⟩
  | 5 => ⟨S_, .f32⟩
  | 6 => ⟨S2684354, .f32⟩
  | 7 => ⟨S2684354, .f32⟩
  | 8 => ⟨S1, .f32⟩
  | 9 => ⟨S2684354, .f32⟩
  | 10 => ⟨S2684354, .f32⟩
  | 11 => ⟨S2684354, .f32⟩
  | 12 => ⟨S2684354, .f32⟩
  | 13 => ⟨S2684354, .f32⟩
  | 14 => ⟨S2684354, .f32⟩
  | 15 => ⟨S_, .f32⟩
  | 16 => ⟨S2684354, .f32⟩
  | 17 => ⟨S2684354, .f32⟩
  | 18 => ⟨S2684354, .f32⟩
  | 19 => ⟨S2684354, .f32⟩
  | 20 => ⟨S_, .f32⟩
  | 21 => ⟨S2684354, .f32⟩
  | 22 => ⟨S2684354, .f32⟩
  | _ => ⟨S2x2684354, .i32⟩

abbrev hbmTy (i : Nat) : BufTy := match i / 128 with
  | 0 => hbmTy0_0 i
  | 1 => hbmTy0_1 i
  | 2 => hbmTy0_2 i
  | _ => ⟨S2x2684354, .i32⟩

abbrev bufTy : (tb : Table) → Fin (tcTables nBuf tb) → BufTy
  | .hbm, ⟨i, _⟩ => hbmTy i
  | _, _ => ⟨S2x2684354, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_c_0 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_call0_v0 : Ref sig .tc := ⟨.hbm, 31, rfl⟩
abbrev main_call0_call0_c : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_c_0 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_c_1 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_call0_v12 : Ref sig .tc := ⟨.hbm, 46, rfl⟩
abbrev main_call0_call0_v13 : Ref sig .tc := ⟨.hbm, 47, rfl⟩
abbrev main_call0_call0_c_2 : Ref sig .tc := ⟨.hbm, 48, rfl⟩
abbrev main_call0_call0_v14 : Ref sig .tc := ⟨.hbm, 49, rfl⟩
abbrev main_call0_call0_v15 : Ref sig .tc := ⟨.hbm, 50, rfl⟩
abbrev main_call0_call0_c_3 : Ref sig .tc := ⟨.hbm, 51, rfl⟩
abbrev main_call0_call0_v16 : Ref sig .tc := ⟨.hbm, 52, rfl⟩
abbrev main_call0_call0_v17 : Ref sig .tc := ⟨.hbm, 53, rfl⟩
abbrev main_call0_call0_v18 : Ref sig .tc := ⟨.hbm, 54, rfl⟩
abbrev main_call0_call0_v19 : Ref sig .tc := ⟨.hbm, 55, rfl⟩
abbrev main_call0_call0_v20 : Ref sig .tc := ⟨.hbm, 56, rfl⟩
abbrev main_call0_call0_c_4 : Ref sig .tc := ⟨.hbm, 57, rfl⟩
abbrev main_call0_call0_v21 : Ref sig .tc := ⟨.hbm, 58, rfl⟩
abbrev main_call0_call0_v22 : Ref sig .tc := ⟨.hbm, 59, rfl⟩
abbrev main_call0_call0_c_5 : Ref sig .tc := ⟨.hbm, 60, rfl⟩
abbrev main_call0_call0_v23 : Ref sig .tc := ⟨.hbm, 61, rfl⟩
abbrev main_call0_call0_v24 : Ref sig .tc := ⟨.hbm, 62, rfl⟩
abbrev main_call0_call0_v25 : Ref sig .tc := ⟨.hbm, 63, rfl⟩
abbrev main_call0_call0_v26 : Ref sig .tc := ⟨.hbm, 64, rfl⟩
abbrev main_call0_call0_v27 : Ref sig .tc := ⟨.hbm, 65, rfl⟩
abbrev main_call0_call0_c_6 : Ref sig .tc := ⟨.hbm, 66, rfl⟩
abbrev main_call0_call0_v28 : Ref sig .tc := ⟨.hbm, 67, rfl⟩
abbrev main_call0_call0_v29 : Ref sig .tc := ⟨.hbm, 68, rfl⟩
abbrev main_call0_call0_c_7 : Ref sig .tc := ⟨.hbm, 69, rfl⟩
abbrev main_call0_call0_v30 : Ref sig .tc := ⟨.hbm, 70, rfl⟩
abbrev main_call0_call0_v31 : Ref sig .tc := ⟨.hbm, 71, rfl⟩
abbrev main_call0_call0_v32 : Ref sig .tc := ⟨.hbm, 72, rfl⟩
abbrev main_call0_call0_v33 : Ref sig .tc := ⟨.hbm, 73, rfl⟩
abbrev main_call0_call0_v34 : Ref sig .tc := ⟨.hbm, 74, rfl⟩
abbrev main_call0_call0_v35 : Ref sig .tc := ⟨.hbm, 75, rfl⟩
abbrev main_call0_call0_v36 : Ref sig .tc := ⟨.hbm, 76, rfl⟩
abbrev main_call0_call0_v37 : Ref sig .tc := ⟨.hbm, 77, rfl⟩
abbrev main_call0_call0_c_8 : Ref sig .tc := ⟨.hbm, 78, rfl⟩
abbrev main_call0_call0_v38 : Ref sig .tc := ⟨.hbm, 79, rfl⟩
abbrev main_call0_call0_v39 : Ref sig .tc := ⟨.hbm, 80, rfl⟩
abbrev main_call0_call0_v40 : Ref sig .tc := ⟨.hbm, 81, rfl⟩
abbrev main_call0_call0_c_9 : Ref sig .tc := ⟨.hbm, 82, rfl⟩
abbrev main_call0_call0_v41 : Ref sig .tc := ⟨.hbm, 83, rfl⟩
abbrev main_call0_call0_v42 : Ref sig .tc := ⟨.hbm, 84, rfl⟩
abbrev main_call0_call0_c_10 : Ref sig .tc := ⟨.hbm, 85, rfl⟩
abbrev main_call0_call0_v43 : Ref sig .tc := ⟨.hbm, 86, rfl⟩
abbrev main_call0_call0_v44 : Ref sig .tc := ⟨.hbm, 87, rfl⟩
abbrev main_call0_call0_v45 : Ref sig .tc := ⟨.hbm, 88, rfl⟩
abbrev main_call0_call0_v46 : Ref sig .tc := ⟨.hbm, 89, rfl⟩
abbrev main_call0_call0_v47 : Ref sig .tc := ⟨.hbm, 90, rfl⟩
abbrev main_call0_call0_c_11 : Ref sig .tc := ⟨.hbm, 91, rfl⟩
abbrev main_call0_call0_v48 : Ref sig .tc := ⟨.hbm, 92, rfl⟩
abbrev main_call0_call0_v49 : Ref sig .tc := ⟨.hbm, 93, rfl⟩
abbrev main_call0_call0_c_12 : Ref sig .tc := ⟨.hbm, 94, rfl⟩
abbrev main_call0_call0_v50 : Ref sig .tc := ⟨.hbm, 95, rfl⟩
abbrev main_call0_call0_v51 : Ref sig .tc := ⟨.hbm, 96, rfl⟩
abbrev main_call0_call0_v52 : Ref sig .tc := ⟨.hbm, 97, rfl⟩
abbrev main_call0_call0_v53 : Ref sig .tc := ⟨.hbm, 98, rfl⟩
abbrev main_call0_call0_v54 : Ref sig .tc := ⟨.hbm, 99, rfl⟩
abbrev main_call0_call0_c_13 : Ref sig .tc := ⟨.hbm, 100, rfl⟩
abbrev main_call0_call0_v55 : Ref sig .tc := ⟨.hbm, 101, rfl⟩
abbrev main_call0_call0_v56 : Ref sig .tc := ⟨.hbm, 102, rfl⟩
abbrev main_call0_call0_c_14 : Ref sig .tc := ⟨.hbm, 103, rfl⟩
abbrev main_call0_call0_v57 : Ref sig .tc := ⟨.hbm, 104, rfl⟩
abbrev main_call0_call0_v58 : Ref sig .tc := ⟨.hbm, 105, rfl⟩
abbrev main_call0_call0_v59 : Ref sig .tc := ⟨.hbm, 106, rfl⟩
abbrev main_call0_call0_v60 : Ref sig .tc := ⟨.hbm, 107, rfl⟩
abbrev main_call0_call0_v61 : Ref sig .tc := ⟨.hbm, 108, rfl⟩
abbrev main_call0_call0_c_15 : Ref sig .tc := ⟨.hbm, 109, rfl⟩
abbrev main_call0_call0_v62 : Ref sig .tc := ⟨.hbm, 110, rfl⟩
abbrev main_call0_call0_v63 : Ref sig .tc := ⟨.hbm, 111, rfl⟩
abbrev main_call0_call0_c_16 : Ref sig .tc := ⟨.hbm, 112, rfl⟩
abbrev main_call0_call0_v64 : Ref sig .tc := ⟨.hbm, 113, rfl⟩
abbrev main_call0_call0_v65 : Ref sig .tc := ⟨.hbm, 114, rfl⟩
abbrev main_call0_call0_v66 : Ref sig .tc := ⟨.hbm, 115, rfl⟩
abbrev main_call0_call0_v67 : Ref sig .tc := ⟨.hbm, 116, rfl⟩
abbrev main_call0_call0_v68 : Ref sig .tc := ⟨.hbm, 117, rfl⟩
abbrev main_call0_call0_v69 : Ref sig .tc := ⟨.hbm, 118, rfl⟩
abbrev main_call0_call0_v70 : Ref sig .tc := ⟨.hbm, 119, rfl⟩
abbrev main_call0_call0_v71 : Ref sig .tc := ⟨.hbm, 120, rfl⟩
abbrev main_call0_call0_c_17 : Ref sig .tc := ⟨.hbm, 121, rfl⟩
abbrev main_call0_call0_v72 : Ref sig .tc := ⟨.hbm, 122, rfl⟩
abbrev main_call0_call0_v73 : Ref sig .tc := ⟨.hbm, 123, rfl⟩
abbrev main_call0_call0_v74 : Ref sig .tc := ⟨.hbm, 124, rfl⟩
abbrev main_call0_call0_c_18 : Ref sig .tc := ⟨.hbm, 125, rfl⟩
abbrev main_call0_call0_v75 : Ref sig .tc := ⟨.hbm, 126, rfl⟩
abbrev main_call0_call0_v76 : Ref sig .tc := ⟨.hbm, 127, rfl⟩
abbrev main_call0_call0_c_19 : Ref sig .tc := ⟨.hbm, 128, rfl⟩
abbrev main_call0_call0_v77 : Ref sig .tc := ⟨.hbm, 129, rfl⟩
abbrev main_call0_call0_v78 : Ref sig .tc := ⟨.hbm, 130, rfl⟩
abbrev main_call0_call0_v79 : Ref sig .tc := ⟨.hbm, 131, rfl⟩
abbrev main_call0_call0_v80 : Ref sig .tc := ⟨.hbm, 132, rfl⟩
abbrev main_call0_call0_v81 : Ref sig .tc := ⟨.hbm, 133, rfl⟩
abbrev main_call0_call0_c_20 : Ref sig .tc := ⟨.hbm, 134, rfl⟩
abbrev main_call0_call0_v82 : Ref sig .tc := ⟨.hbm, 135, rfl⟩
abbrev main_call0_call0_v83 : Ref sig .tc := ⟨.hbm, 136, rfl⟩
abbrev main_call0_call0_c_21 : Ref sig .tc := ⟨.hbm, 137, rfl⟩
abbrev main_call0_call0_v84 : Ref sig .tc := ⟨.hbm, 138, rfl⟩
abbrev main_call0_call0_v85 : Ref sig .tc := ⟨.hbm, 139, rfl⟩
abbrev main_call0_call0_v86 : Ref sig .tc := ⟨.hbm, 140, rfl⟩
abbrev main_call0_call0_v87 : Ref sig .tc := ⟨.hbm, 141, rfl⟩
abbrev main_call0_call0_v88 : Ref sig .tc := ⟨.hbm, 142, rfl⟩
abbrev main_call0_call0_c_22 : Ref sig .tc := ⟨.hbm, 143, rfl⟩
abbrev main_call0_call0_v89 : Ref sig .tc := ⟨.hbm, 144, rfl⟩
abbrev main_call0_call0_v90 : Ref sig .tc := ⟨.hbm, 145, rfl⟩
abbrev main_call0_call0_c_23 : Ref sig .tc := ⟨.hbm, 146, rfl⟩
abbrev main_call0_call0_v91 : Ref sig .tc := ⟨.hbm, 147, rfl⟩
abbrev main_call0_call0_v92 : Ref sig .tc := ⟨.hbm, 148, rfl⟩
abbrev main_call0_call0_v93 : Ref sig .tc := ⟨.hbm, 149, rfl⟩
abbrev main_call0_call0_v94 : Ref sig .tc := ⟨.hbm, 150, rfl⟩
abbrev main_call0_call0_v95 : Ref sig .tc := ⟨.hbm, 151, rfl⟩
abbrev main_call0_call0_c_24 : Ref sig .tc := ⟨.hbm, 152, rfl⟩
abbrev main_call0_call0_v96 : Ref sig .tc := ⟨.hbm, 153, rfl⟩
abbrev main_call0_call0_v97 : Ref sig .tc := ⟨.hbm, 154, rfl⟩
abbrev main_call0_call0_c_25 : Ref sig .tc := ⟨.hbm, 155, rfl⟩
abbrev main_call0_call0_v98 : Ref sig .tc := ⟨.hbm, 156, rfl⟩
abbrev main_call0_call0_v99 : Ref sig .tc := ⟨.hbm, 157, rfl⟩
abbrev main_call0_call0_v100 : Ref sig .tc := ⟨.hbm, 158, rfl⟩
abbrev main_call0_call0_v101 : Ref sig .tc := ⟨.hbm, 159, rfl⟩
abbrev main_call0_call0_v102 : Ref sig .tc := ⟨.hbm, 160, rfl⟩
abbrev main_call0_call0_v103 : Ref sig .tc := ⟨.hbm, 161, rfl⟩
abbrev main_call0_call0_v104 : Ref sig .tc := ⟨.hbm, 162, rfl⟩
abbrev main_call0_call0_v105 : Ref sig .tc := ⟨.hbm, 163, rfl⟩
abbrev main_call0_call0_c_26 : Ref sig .tc := ⟨.hbm, 164, rfl⟩
abbrev main_call0_call0_v106 : Ref sig .tc := ⟨.hbm, 165, rfl⟩
abbrev main_call0_call0_v107 : Ref sig .tc := ⟨.hbm, 166, rfl⟩
abbrev main_call0_call0_v108 : Ref sig .tc := ⟨.hbm, 167, rfl⟩
abbrev main_call0_call0_c_27 : Ref sig .tc := ⟨.hbm, 168, rfl⟩
abbrev main_call0_call0_v109 : Ref sig .tc := ⟨.hbm, 169, rfl⟩
abbrev main_call0_call0_v110 : Ref sig .tc := ⟨.hbm, 170, rfl⟩
abbrev main_call0_call0_c_28 : Ref sig .tc := ⟨.hbm, 171, rfl⟩
abbrev main_call0_call0_v111 : Ref sig .tc := ⟨.hbm, 172, rfl⟩
abbrev main_call0_call0_v112 : Ref sig .tc := ⟨.hbm, 173, rfl⟩
abbrev main_call0_call0_v113 : Ref sig .tc := ⟨.hbm, 174, rfl⟩
abbrev main_call0_call0_v114 : Ref sig .tc := ⟨.hbm, 175, rfl⟩
abbrev main_call0_call0_v115 : Ref sig .tc := ⟨.hbm, 176, rfl⟩
abbrev main_call0_call0_c_29 : Ref sig .tc := ⟨.hbm, 177, rfl⟩
abbrev main_call0_call0_v116 : Ref sig .tc := ⟨.hbm, 178, rfl⟩
abbrev main_call0_call0_v117 : Ref sig .tc := ⟨.hbm, 179, rfl⟩
abbrev main_call0_call0_c_30 : Ref sig .tc := ⟨.hbm, 180, rfl⟩
abbrev main_call0_call0_v118 : Ref sig .tc := ⟨.hbm, 181, rfl⟩
abbrev main_call0_call0_v119 : Ref sig .tc := ⟨.hbm, 182, rfl⟩
abbrev main_call0_call0_v120 : Ref sig .tc := ⟨.hbm, 183, rfl⟩
abbrev main_call0_call0_v121 : Ref sig .tc := ⟨.hbm, 184, rfl⟩
abbrev main_call0_call0_v122 : Ref sig .tc := ⟨.hbm, 185, rfl⟩
abbrev main_call0_call0_c_31 : Ref sig .tc := ⟨.hbm, 186, rfl⟩
abbrev main_call0_call0_v123 : Ref sig .tc := ⟨.hbm, 187, rfl⟩
abbrev main_call0_call0_v124 : Ref sig .tc := ⟨.hbm, 188, rfl⟩
abbrev main_call0_call0_c_32 : Ref sig .tc := ⟨.hbm, 189, rfl⟩
abbrev main_call0_call0_v125 : Ref sig .tc := ⟨.hbm, 190, rfl⟩
abbrev main_call0_call0_v126 : Ref sig .tc := ⟨.hbm, 191, rfl⟩
abbrev main_call0_call0_v127 : Ref sig .tc := ⟨.hbm, 192, rfl⟩
abbrev main_call0_call0_v128 : Ref sig .tc := ⟨.hbm, 193, rfl⟩
abbrev main_call0_call0_v129 : Ref sig .tc := ⟨.hbm, 194, rfl⟩
abbrev main_call0_call0_c_33 : Ref sig .tc := ⟨.hbm, 195, rfl⟩
abbrev main_call0_call0_v130 : Ref sig .tc := ⟨.hbm, 196, rfl⟩
abbrev main_call0_call0_v131 : Ref sig .tc := ⟨.hbm, 197, rfl⟩
abbrev main_call0_call0_c_34 : Ref sig .tc := ⟨.hbm, 198, rfl⟩
abbrev main_call0_call0_v132 : Ref sig .tc := ⟨.hbm, 199, rfl⟩
abbrev main_call0_call0_v133 : Ref sig .tc := ⟨.hbm, 200, rfl⟩
abbrev main_call0_call0_v134 : Ref sig .tc := ⟨.hbm, 201, rfl⟩
abbrev main_call0_call0_v135 : Ref sig .tc := ⟨.hbm, 202, rfl⟩
abbrev main_call0_call0_v136 : Ref sig .tc := ⟨.hbm, 203, rfl⟩
abbrev main_call0_call0_v137 : Ref sig .tc := ⟨.hbm, 204, rfl⟩
abbrev main_call0_call0_v138 : Ref sig .tc := ⟨.hbm, 205, rfl⟩
abbrev main_call0_call0_v139 : Ref sig .tc := ⟨.hbm, 206, rfl⟩
abbrev main_call0_call0_c_35 : Ref sig .tc := ⟨.hbm, 207, rfl⟩
abbrev main_call0_call0_v140 : Ref sig .tc := ⟨.hbm, 208, rfl⟩
abbrev main_call0_call0_v141 : Ref sig .tc := ⟨.hbm, 209, rfl⟩
abbrev main_call0_call0_v142 : Ref sig .tc := ⟨.hbm, 210, rfl⟩
abbrev main_call0_call0_c_36 : Ref sig .tc := ⟨.hbm, 211, rfl⟩
abbrev main_call0_call0_v143 : Ref sig .tc := ⟨.hbm, 212, rfl⟩
abbrev main_call0_call0_v144 : Ref sig .tc := ⟨.hbm, 213, rfl⟩
abbrev main_call0_call0_c_37 : Ref sig .tc := ⟨.hbm, 214, rfl⟩
abbrev main_call0_call0_v145 : Ref sig .tc := ⟨.hbm, 215, rfl⟩
abbrev main_call0_call0_v146 : Ref sig .tc := ⟨.hbm, 216, rfl⟩
abbrev main_call0_call0_v147 : Ref sig .tc := ⟨.hbm, 217, rfl⟩
abbrev main_call0_call0_v148 : Ref sig .tc := ⟨.hbm, 218, rfl⟩
abbrev main_call0_call0_v149 : Ref sig .tc := ⟨.hbm, 219, rfl⟩
abbrev main_call0_call0_c_38 : Ref sig .tc := ⟨.hbm, 220, rfl⟩
abbrev main_call0_call0_v150 : Ref sig .tc := ⟨.hbm, 221, rfl⟩
abbrev main_call0_call0_v151 : Ref sig .tc := ⟨.hbm, 222, rfl⟩
abbrev main_call0_call0_c_39 : Ref sig .tc := ⟨.hbm, 223, rfl⟩
abbrev main_call0_call0_v152 : Ref sig .tc := ⟨.hbm, 224, rfl⟩
abbrev main_call0_call0_v153 : Ref sig .tc := ⟨.hbm, 225, rfl⟩
abbrev main_call0_call0_v154 : Ref sig .tc := ⟨.hbm, 226, rfl⟩
abbrev main_call0_call0_v155 : Ref sig .tc := ⟨.hbm, 227, rfl⟩
abbrev main_call0_call0_v156 : Ref sig .tc := ⟨.hbm, 228, rfl⟩
abbrev main_call0_call0_c_40 : Ref sig .tc := ⟨.hbm, 229, rfl⟩
abbrev main_call0_call0_v157 : Ref sig .tc := ⟨.hbm, 230, rfl⟩
abbrev main_call0_call0_v158 : Ref sig .tc := ⟨.hbm, 231, rfl⟩
abbrev main_call0_call0_c_41 : Ref sig .tc := ⟨.hbm, 232, rfl⟩
abbrev main_call0_call0_v159 : Ref sig .tc := ⟨.hbm, 233, rfl⟩
abbrev main_call0_call0_v160 : Ref sig .tc := ⟨.hbm, 234, rfl⟩
abbrev main_call0_call0_v161 : Ref sig .tc := ⟨.hbm, 235, rfl⟩
abbrev main_call0_call0_v162 : Ref sig .tc := ⟨.hbm, 236, rfl⟩
abbrev main_call0_call0_v163 : Ref sig .tc := ⟨.hbm, 237, rfl⟩
abbrev main_call0_call0_c_42 : Ref sig .tc := ⟨.hbm, 238, rfl⟩
abbrev main_call0_call0_v164 : Ref sig .tc := ⟨.hbm, 239, rfl⟩
abbrev main_call0_call0_v165 : Ref sig .tc := ⟨.hbm, 240, rfl⟩
abbrev main_call0_call0_c_43 : Ref sig .tc := ⟨.hbm, 241, rfl⟩
abbrev main_call0_call0_v166 : Ref sig .tc := ⟨.hbm, 242, rfl⟩
abbrev main_call0_call0_v167 : Ref sig .tc := ⟨.hbm, 243, rfl⟩
abbrev main_call0_call0_v168 : Ref sig .tc := ⟨.hbm, 244, rfl⟩
abbrev main_call0_call0_v169 : Ref sig .tc := ⟨.hbm, 245, rfl⟩
abbrev main_call0_call0_v170 : Ref sig .tc := ⟨.hbm, 246, rfl⟩
abbrev main_call0_v15_0 : Ref sig .tc := ⟨.hbm, 247, rfl⟩
abbrev main_call0_call0_v172 : Ref sig .tc := ⟨.hbm, 248, rfl⟩
abbrev main_call0_call0_v173 : Ref sig .tc := ⟨.hbm, 249, rfl⟩
abbrev main_call0_call0_c_44 : Ref sig .tc := ⟨.hbm, 250, rfl⟩
abbrev main_call0_call0_v174 : Ref sig .tc := ⟨.hbm, 251, rfl⟩
abbrev main_call0_v15_1 : Ref sig .tc := ⟨.hbm, 252, rfl⟩
abbrev main_call0_v16 : Ref sig .tc := ⟨.hbm, 253, rfl⟩
abbrev main_call0_c_1 : Ref sig .tc := ⟨.hbm, 254, rfl⟩
abbrev main_call0_v17 : Ref sig .tc := ⟨.hbm, 255, rfl⟩
abbrev main_call0_v18 : Ref sig .tc := ⟨.hbm, 256, rfl⟩
abbrev main_call0_c_2 : Ref sig .tc := ⟨.hbm, 257, rfl⟩
abbrev main_call0_v19 : Ref sig .tc := ⟨.hbm, 258, rfl⟩
abbrev main_call0_v20 : Ref sig .tc := ⟨.hbm, 259, rfl⟩
abbrev main_call0_v21 : Ref sig .tc := ⟨.hbm, 260, rfl⟩
abbrev main_call0_cst : Ref sig .tc := ⟨.hbm, 261, rfl⟩
abbrev main_call0_v22 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_v7 : Ref sig .tc := ⟨.hbm, 270, rfl⟩
abbrev main_cst_3 : Ref sig .tc := ⟨.hbm, 271, rfl⟩
abbrev main_v8 : Ref sig .tc := ⟨.hbm, 272, rfl⟩
abbrev main_v9 : Ref sig .tc := ⟨.hbm, 273, rfl⟩
abbrev main_v10 : Ref sig .tc := ⟨.hbm, 274, rfl⟩
abbrev main_v11 : Ref sig .tc := ⟨.hbm, 275, rfl⟩
abbrev main_cst_4 : Ref sig .tc := ⟨.hbm, 276, rfl⟩
abbrev main_v12 : Ref sig .tc := ⟨.hbm, 277, rfl⟩
abbrev main_v13 : Ref sig .tc := ⟨.hbm, 278, rfl⟩

abbrev nD : Nat := 1
abbrev τ : Topo := Topo.v7x

variable {F : FTy → Type} [FloatOps F]
-- ==== Proof.BitsFrame.lean ====
/-
  The kernel at machine floats: every run ends, the arguments as they were and every semaphore at zero. Nothing is said of the
  values written, so the two output windows are let go: each point takes them at anything and leaves them at anything.
-/
module

public import proofs.«01_k».proof.Proof.Gen.Kernel.Frame
public import proofs.«01_k».proof.Proof.Gen.Kernel.Skeleton
public import Idealize.ShloMosaic.Lib.Pipeline.KitQuiescent

@[expose] public section

noncomputable section

namespace Cert.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point -/

set_option maxHeartbeats 4000000 in
/-- From the five buffers at anything the body runs to its end and leaves the three inputs as they were. -/
theorem body_ends (c : Dev nD) (E : Set ℕ) (i : grid0.Coords)
    (arg1 : Memref sig .tc .vmem S524288 .f32) (harg1 : arg1.IsWhole) (arg2 : Memref sig .tc .vmem S16384 .i32) (harg2 : arg2.IsWhole)
    (arg3 : Memref sig .tc .vmem S2x524288 .i32) (harg3 : arg3.IsWhole) (arg4 : Memref sig .tc .vmem S524288 .f32) (harg4 : arg4.IsWhole)
    (arg5 : Memref sig .tc .vmem S2x524288 .i32) (harg5 : arg5.IsWhole)
    (x : Vec F S524288 .f32) (w : Vec F S16384 .i32) (p : Vec F S2x524288 .i32) (K : PUnit → sProp 𝕄) :
    iprop((owns (c : Thread nD τ) arg1 fullShare x ∗ owns (c : Thread nD τ) arg2 fullShare w ∗ owns (c : Thread nD τ) arg3 fullShare p
            ∗ (∃ d, owns (c : Thread nD τ) arg4 fullShare d) ∗ (∃ d, owns (c : Thread nD τ) arg5 fullShare d))
        ∗ (iprop(owns (c : Thread nD τ) arg1 fullShare x ∗ owns (c : Thread nD τ) arg2 fullShare w ∗ owns (c : Thread nD τ) arg3 fullShare p
            ∗ (∃ d, owns (c : Thread nD τ) arg4 fullShare d) ∗ (∃ d, owns (c : Thread nD τ) arg5 fullShare d)) -∗ K ⟨⟩))
      ⊢ wp frame (wpE (defs₀ (F := F)) Variants.none c none) E
          (cc0__dropout_block i arg1 harg1 arg2 harg2 arg3 harg3 arg4 harg4 arg5 harg5) K := by
  simp only [cc0__dropout_block_eq_skeleton]; unfold cc0__dropout_block_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨⟨%fx, %hx, Hx⟩, ⟨%fw, %hw, Hw⟩, ⟨%fp, %hp, Hp⟩, ⟨%d4, %f4, -, H4⟩, ⟨%d5, %f5, -, H5⟩⟩, Hk⟩
  subst hx hw hp
  sl_exec
  sl_step
  iapply Hk
  isplitl [Hx]
  · iexists fx; isplitr; · ipureintro; rfl
    iexact Hx
  isplitl [Hw]
  · iexists fw; isplitr; · ipureintro; rfl
    iexact Hw
  isplitl [Hp]
  · iexists fp; isplitr; · ipureintro; rfl
    iexact Hp
  isplitl [H4]
  · iexists _, _; isplitr
    swap; · iexact H4
    ipureintro; rfl
  · iexists _, _; isplitr
    swap; · iexact H5
    ipureintro; rfl

/-! ## What the buffers hold around a point -/

/-- The input buffers hold their blocks after a point, made up past the arrays' ends with the zero word; the outputs are not
    named. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => FloatOps.ofBits .f32 0#32) (iblk m c 0 t)
    | ⟨1, _⟩ => iblk m c 1 t
    | ⟨2, _⟩ => win0_2.fill (grid0.coords t) (fun _ => (0#32 : BitVec 32)) (iblk m c 2 t)
    | ⟨3, _⟩ => Dat.unnamed (cfg := cfg0) 3 t
    | ⟨4, _⟩ => Dat.unnamed (cfg := cfg0) 4 t
  Φ _ := Pipeline.ΦA spec0 c
  q _ := fullShare
  owed _ := 0

/-- The windows let go: the two outputs. -/
def let_go (w : Fin cfg0.W) : Bool := match w with
  | ⟨0, _⟩ => false
  | ⟨1, _⟩ => false
  | ⟨2, _⟩ => false
  | ⟨3, _⟩ => true
  | ⟨4, _⟩ => true

/-- The arrays are as the host line before the kernel leaves them. -/
theorem A_eq (c : Dev nD) (w : Fin cfg0.W) : (dats m 0 c).A w = V m c (Pipeline.arrRef spec0 w) := by
  dsimp only [dats]

/-- The body finds the block of values in its buffer, fetched at the point. -/
theorem before_values (c : Dev nD) (t : Fin cfg0.N) (d) :
    (dats m 0 c).before 0 t d = win0_0.fill (grid0.coords t) d (iblk m c 0 t) := by
  unfold Dat.before; rw [if_pos (fetch0_0 t)]; rfl

/-- It finds the block of mask words. -/
theorem before_words (c : Dev nD) (t : Fin cfg0.N) (d) : (dats m 0 c).before 1 t d = iblk m c 1 t := by
  unfold Dat.before; rw [if_pos (fetch0_1 t)]; rfl

/-- It finds the block of indices. -/
theorem before_places (c : Dev nD) (t : Fin cfg0.N) (d) :
    (dats m 0 c).before 2 t d = win0_2.fill (grid0.coords t) d (iblk m c 2 t) := by
  unfold Dat.before; rw [if_pos (fetch0_2 t)]; rfl

/-- The body keeps the promise that the pipeline asks of it at every point, with the outputs let go. -/
theorem body_obligation (c : Dev nD) :
    BodyObligationLoose (dats m 0 c) (defs₀ (F := F)) Variants.none () Set.univ let_go := fun t => by
  rw [bigSep_W0, bigSep_W0]
  simp only [let_go]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, H3, H4⟩
  rw [before_values m c t d0, before_words m c t d1, before_places m c t d2]
  iapply (body_ends (F := F) c Set.univ (grid0.coords t) _ (hstage0_0 ((cfg0.slots t 0).cast nbuf0_0)) _
    (hstage0_1 ((cfg0.slots t 1).cast nbuf0_1)) _ (hstage0_2 ((cfg0.slots t 2).cast nbuf0_2)) _
    (hstage0_3 ((cfg0.slots t 3).cast nbuf0_3)) _ (hstage0_4 ((cfg0.slots t 4).cast nbuf0_4))
    (win0_0.fill (grid0.coords t) d0 (iblk m c 0 t)) (iblk m c 1 t) (win0_2.fill (grid0.coords t) d2 (iblk m c 2 t)) _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (win0_0.fill (grid0.coords t) _ (iblk m c 0 t))))
    rw [win0_0.cut_fill]; try exact Entails.refl _
  isplitl [H1]
  · iexact H1
  isplitl [H2]
  · iexists d2
    change _ ⊢ owns (c : Thread nD τ) (stage0_2 (cfg0.slots t 2)) fullShare
      (win0_2.fill (grid0.coords t) d2 (win0_2.cut (grid0.coords t) (win0_2.fill (grid0.coords t) _ (iblk m c 2 t))))
    rw [win0_2.cut_fill]; try exact Entails.refl _
  isplitl [H3]
  · iexact H3
  · iexact H4

/-! ## The run -/

set_option backward.isDefEq.respectTransparency.types false in
/-- Every run ends, with every input array as it was and every semaphore at zero. -/
theorem run_arrays : θ_run defs (onTc (τ := τ) (main (F := F))) (s₀ m ρ)
    (fun r => RDat.FramePost cfg0 (fun c => (dats m 0 c).toRForget let_go) (V m) r ∧ r.2.sem = fun _ => 0) :=
  Pipeline.θ_run_frame_forget cfgs (dats m) (0 : Fin 1) launch0 defs₀ Variants.none let_go m ρ main
    (hbody := body_obligation m) (hshare := fun c => (dats m 0 c).share_full fun _ => rfl) (howed := fun _ _ => rfl)
    (V := V m) (hmain := hmain m Variants.none) (hA := A_eq m) (hΦ := fun _ _ => rfl)
    (Q' := fun r => RDat.FramePost cfg0 (fun c => (dats m 0 c).toRForget let_go) (V m) r ∧ r.2.sem = fun _ => 0)
    (hQ' := fun _ h => h)

/-- Every run of the kernel ends with the arguments as they were and every semaphore at zero. -/
theorem run : θ_run defs (onTc (τ := τ) (main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c =>
      ⟨(h.1.arr_in c 2 rfl).trans ((A_eq m c 2).trans (V_main_arg0 m c)),
       (h.1.arr_in c 0 rfl).trans ((A_eq m c 0).trans (V_main_arg1 m c))⟩, h.2⟩)
    (run_arrays m ρ)

end Cert.BitsFrame
-- ==== Proof.KernelBody.lean ====
/-
  One grid point of the kernel: what the body leaves in the two output buffers, from what the three input buffers hold. The
  value buffer is filled in thirty-two stores, one for each bit of the mask words; the index buffer in one.
-/
module

public import proofs.«01_k».proof.Proof.Gen.KernelIdeal.Frame
public import proofs.«01_k».proof.Proof.Gen.KernelIdeal.Skeleton

@[expose] public section

noncomputable section

namespace Cert.KernelBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes -/

/-- The mask word that an entry of a block reads: the entry's place within its run of 16384. -/
def column (j : S524288.Idx) : S16384.Idx := fun a => ⟨(j 0).val % 16384, by
  have h : a = 0 := Subsingleton.elim _ _
  subst h
  exact Nat.mod_lt _ (by decide)⟩

/-- A block of values with the mask applied: the entry's value times its mask bit times the scale. The bit's place in the mask
    word is the number of the entry's run. -/
def scaled (x : Vec F S524288 .f32) (w : Vec F S16384 .i32) : Vec F S524288 .f32 := fun j =>
  FloatOps.mulf (x j) (FloatOps.mulf (FloatOps.uitofp .f32 (((w (column j) : BitVec 32) >>> ((j 0).val / 16384)) &&& 1#32))
    (FloatOps.ofBits .f32 0x3F8E38E4#32))

/-- The stores of a list all store what `Z` holds at their places. -/
def Agree {s : Shape} {e : EltTy} (Z : s.Idx → Elt F e) (L : List (View.Piece (Elt F) s e)) : Prop :=
  ∀ p ∈ L, ∀ j, p.2 j = Z (p.1.emb j)

/-- No store agrees with everything. -/
theorem agree_nil {s : Shape} {e : EltTy} {Z : s.Idx → Elt F e} : Agree Z [] := fun _ h => absurd h List.not_mem_nil

/-- One store more. -/
theorem Agree.cons {s : Shape} {e : EltTy} {Z : s.Idx → Elt F e} {r : Rect s} {p : r.shape.Idx → Elt F e}
    {L : List (View.Piece (Elt F) s e)} (h : ∀ j, p j = Z (r.emb j)) (hL : Agree Z L) : Agree Z (⟨r, p⟩ :: L) := by
  intro q hq
  rcases List.mem_cons.mp hq with rfl | hq
  · exact h
  · exact hL q hq

/-- A buffer that such stores fill holds `Z`. -/
theorem Agree.read {κ : Kind} {sp : Space} {s : Shape} {e : EltTy} {Z : s.Idx → Elt F e} {L : List (View.Piece (Elt F) s e)}
    (hL : Agree Z L) (v : View sig κ sp s e) (f : v.ty.Contents (Elt F)) (hc : ∀ y, ∃ p ∈ L, y ∈ p.1.set) :
    v.read (Elt F) (v.writes (Elt F) f L) = Z := by
  funext y
  have H : ∀ L : List (View.Piece (Elt F) s e), Agree Z L → (∃ p ∈ L, y ∈ p.1.set) →
      v.read (Elt F) (v.writes (Elt F) f L) y = Z y := by
    intro L
    induction L with
    | nil => rintro _ ⟨_, h, _⟩; exact absurd h List.not_mem_nil
    | cons p L ih =>
      intro hA hy
      obtain ⟨r, g⟩ := p
      by_cases hm : y ∈ r.set
      · obtain ⟨j, rfl⟩ : ∃ j, r.emb j = y := r.exists_idx_of_mem hm
        rw [View.read_writes_cons_emb]
        exact hA ⟨r, g⟩ List.mem_cons_self j
      · have hm' : y ∉ Finset.univ.map r.emb := by rwa [Rect.map_emb_univ]
        rw [View.writes_cons, View.read_slice_write_of_not_mem r _ _ _ hm']
        refine ih (fun q hq => hA q (List.mem_cons_of_mem _ hq)) ?_
        obtain ⟨q, hq, hyq⟩ := hy
        rcases List.mem_cons.mp hq with rfl | hq
        · exact absurd hyq hm
        · exact ⟨q, hq, hyq⟩
  exact H L hL (hc y)

/-- The run of bit `b`: what is stored there is the masked block. -/
theorem run_value (x : Vec F S524288 .f32) (w W : Vec F S16384 .i32) (hW : ∀ j, W j = w j) (b off : Nat)
    (inb : ∀ a, (![off] : Fin 1 → Nat) a + S16384.size a ≤ S524288.size a) (hb : b < 32) (ho : off = b * 16384) (j : S16384.Idx) :
    FloatOps.mulf (x ((Rect.unit (s := S524288) ![off] S16384.size inb).emb j))
        (FloatOps.mulf (FloatOps.uitofp .f32 (IntOp.andi (IntOp.shrui .vector (W j) (BitVec.ofNat 32 b)) 1#32))
          (FloatOps.ofBits .f32 0x3F8E38E4#32))
      = scaled x w ((Rect.unit (s := S524288) ![off] S16384.size inb).emb j) := by
  have hj : (j 0).val < 16384 := (j 0).isLt
  have hv : ((Rect.unit (s := S524288) ![off] S16384.size inb).emb j 0).val = off + (j 0).val := by
    rw [Rect.emb_apply]
    show off + 1 * (j 0).val = _
    omega
  have hc : column ((Rect.unit (s := S524288) ![off] S16384.size inb).emb j) = j := by
    funext a
    have h : a = 0 := Subsingleton.elim _ _
    subst h
    apply Fin.ext
    show ((Rect.unit (s := S524288) ![off] S16384.size inb).emb j 0).val % 16384 = _
    rw [hv]; omega
  have hd : ((Rect.unit (s := S524288) ![off] S16384.size inb).emb j 0).val / 16384 = b := by rw [hv]; omega
  have hn : (BitVec.ofNat 32 b).toNat = b := by rw [BitVec.toNat_ofNat]; omega
  unfold scaled
  rw [hc, hd, hW]
  unfold IntOp.shrui IntOp.andi
  rw [if_pos (by rw [hn]; exact hb), BitVec.ushiftRight_eq', hn]

/-! ## The body's run -/

set_option maxHeartbeats 4000000 in
/-- From the three input buffers at `x`, `w` and `p` and the two output buffers at anything, the body runs to its end, leaves the
    inputs as they were, the first output at the masked block and the second at the indices `p`. -/
theorem body_triple (c : Dev nD) (E : Set ℕ) (i : grid0.Coords)
    (arg1 : Memref sig .tc .vmem S524288 .f32) (harg1 : arg1.IsWhole) (arg2 : Memref sig .tc .vmem S16384 .i32) (harg2 : arg2.IsWhole)
    (arg3 : Memref sig .tc .vmem S2x524288 .i32) (harg3 : arg3.IsWhole) (arg4 : Memref sig .tc .vmem S524288 .f32) (harg4 : arg4.IsWhole)
    (arg5 : Memref sig .tc .vmem S2x524288 .i32) (harg5 : arg5.IsWhole)
    (x : Vec F S524288 .f32) (w : Vec F S16384 .i32) (p : Vec F S2x524288 .i32) (K : PUnit → sProp 𝕄) :
    iprop((owns (c : Thread nD τ) arg1 fullShare x ∗ owns (c : Thread nD τ) arg2 fullShare w ∗ owns (c : Thread nD τ) arg3 fullShare p
            ∗ (∃ d, owns (c : Thread nD τ) arg4 fullShare d) ∗ (∃ d, owns (c : Thread nD τ) arg5 fullShare d))
        ∗ (iprop(owns (c : Thread nD τ) arg1 fullShare x ∗ owns (c : Thread nD τ) arg2 fullShare w ∗ owns (c : Thread nD τ) arg3 fullShare p
            ∗ owns (c : Thread nD τ) arg4 fullShare (scaled x w) ∗ owns (c : Thread nD τ) arg5 fullShare p) -∗ K ⟨⟩))
      ⊢ wp frame (wpE (defs₀ (F := F)) Variants.none c none) E
          (cc0__dropout_block i arg1 harg1 arg2 harg2 arg3 harg3 arg4 harg4 arg5 harg5) K := by
  simp only [cc0__dropout_block_eq_skeleton]; unfold cc0__dropout_block_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold owns
  iintro ⟨⟨⟨%fx, %hx, Hx⟩, ⟨%fw, %hw, Hw⟩, ⟨%fp, %hp, Hp⟩, ⟨%d4, %f4, -, H4⟩, ⟨%d5, %f5, -, H5⟩⟩, Hk⟩
  subst hx hw hp
  sl_exec
  sl_step
  iapply Hk
  isplitl [Hx]
  · iexists fx; isplitr; · ipureintro; rfl
    iexact Hx
  isplitl [Hw]
  · iexists fw; isplitr; · ipureintro; rfl
    iexact Hw
  isplitl [Hp]
  · iexists fp; isplitr; · ipureintro; rfl
    iexact Hp
  isplitl [H4]
  · iexists _; isplitr
    swap; · iexact H4
    ipureintro
    have hW : ∀ j, View.readAt (Elt F) arg2.view (Rect.unit (s := S16384) ![0] S16384.size inb_S16384_S16384_0).toLoadRect fw j
        = View.read (Elt F) arg2.view fw j := fun j => congrArg (View.read (Elt F) arg2.view fw) (funext fun a => by
      have h : a = 0 := Subsingleton.elim _ _
      subst h
      apply Fin.ext
      show 0 + 1 * (j 0).val = (j 0).val
      omega)
    refine Agree.read ?_ arg4.view f4 (View.cover_of_tiled _ S16384.size (by rfl))
    iterate 32 refine Agree.cons (fun j => run_value _ _ _ hW _ _ _ (by decide) (by rfl) j) ?_
    exact agree_nil
  · iexists _; isplitr
    swap; · iexact H5
    ipureintro
    refine Agree.read (Agree.cons (fun j => ?_) agree_nil) arg5.view f5 (View.cover_of_tiled _ S2x524288.size (by rfl))
    rfl

end Cert.KernelBody
-- ==== Proof.KernelRun.lean ====
/-
  The run of the kernel: from any memory, the two result arrays end at what the six grid points write back, the arguments and
  every semaphore as they were. The last block overhangs the arrays; what its buffers hold past their ends is never written.
-/
module

public import proofs.«01_k».proof.Proof.KernelBody
public import Idealize.ShloMosaic.Lib.Pipeline.KitQuiescent

@[expose] public section

noncomputable section

namespace Cert.KernelRun

open Cert.KernelIdeal Cert.KernelIdeal.Gen Cert.KernelBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The block of values at a point, the part past the array's end made up with the zero word. -/
def values (c : Dev nD) (t : Fin cfg0.N) : Vec F S524288 .f32 :=
  win0_0.fill (grid0.coords t) (fun _ => FloatOps.ofBits .f32 0#32) (iblk m c 0 t)

/-- The block of indices at a point, made up likewise. -/
def places (c : Dev nD) (t : Fin cfg0.N) : Vec F S2x524288 .i32 :=
  win0_2.fill (grid0.coords t) (fun _ => (0#32 : BitVec 32)) (iblk m c 2 t)

/-- After the body at a point the input buffers hold their blocks, the value result's buffer the masked block and the index
    result's buffer the block of indices. -/
def dats (_ : Fin 1) (c : Dev nD) : Dat τ (Elt F) Unit ℕ (UR sig nD τ) ℕ cfg0 c where
  A w := V m c (Pipeline.arrRef spec0 w)
  after w t := match w with
    | ⟨0, _⟩ => values m c t
    | ⟨1, _⟩ => iblk m c 1 t
    | ⟨2, _⟩ => places m c t
    | ⟨3, _⟩ => scaled (values m c t) (iblk m c 1 t)
    | ⟨4, _⟩ => places m c t
  Φ _ := Pipeline.ΦA spec0 c
  q _ := fullShare
  owed _ := 0

/-- The arrays are as the host line before the kernel leaves them. -/
theorem A_eq (c : Dev nD) (w : Fin cfg0.W) : (dats m 0 c).A w = V m c (Pipeline.arrRef spec0 w) := by
  dsimp only [dats]

/-- The body finds the block of values in its buffer, fetched at the point; past the array's end it finds anything. -/
theorem before_values (c : Dev nD) (t : Fin cfg0.N) (d) :
    (dats m 0 c).before 0 t d = win0_0.fill (grid0.coords t) d (iblk m c 0 t) := by
  unfold Dat.before; rw [if_pos (fetch0_0 t)]; rfl

/-- It finds the block of mask words whole. -/
theorem before_words (c : Dev nD) (t : Fin cfg0.N) (d) : (dats m 0 c).before 1 t d = iblk m c 1 t := by
  unfold Dat.before; rw [if_pos (fetch0_1 t)]; rfl

/-- It finds the block of indices as it finds the block of values. -/
theorem before_places (c : Dev nD) (t : Fin cfg0.N) (d) :
    (dats m 0 c).before 2 t d = win0_2.fill (grid0.coords t) d (iblk m c 2 t) := by
  unfold Dat.before; rw [if_pos (fetch0_2 t)]; rfl

/-- The masked block inside the array does not depend on what the value buffer held past the array's end. -/
theorem cut_scaled (c : Dev nD) (t : Fin cfg0.N) (d : Vec F S524288 .f32) :
    win0_3.cut (grid0.coords t) (scaled (win0_0.fill (grid0.coords t) d (iblk m c 0 t)) (iblk m c 1 t))
      = win0_3.cut (grid0.coords t) (scaled (values m c t) (iblk m c 1 t)) := by
  funext j
  have h : ∀ d : Vec F S524288 .f32, win0_0.fill (grid0.coords t) d (iblk m c 0 t) (win0_3.xinj (grid0.coords t) j)
      = iblk m c 0 t j := fun d => win0_0.fill_xinj (grid0.coords t) d (iblk m c 0 t) j
  show scaled _ _ (win0_3.xinj (grid0.coords t) j) = scaled _ _ (win0_3.xinj (grid0.coords t) j)
  unfold scaled values
  rw [h, h]

/-- The body keeps the promise that the pipeline asks of it at every point. -/
theorem body_obligation (c : Dev nD) : BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_values m c t d0, before_words m c t d1, before_places m c t d2]
  iapply (body_triple (F := F) c Set.univ (grid0.coords t) _ (hstage0_0 ((cfg0.slots t 0).cast nbuf0_0)) _
    (hstage0_1 ((cfg0.slots t 1).cast nbuf0_1)) _ (hstage0_2 ((cfg0.slots t 2).cast nbuf0_2)) _
    (hstage0_3 ((cfg0.slots t 3).cast nbuf0_3)) _ (hstage0_4 ((cfg0.slots t 4).cast nbuf0_4))
    (win0_0.fill (grid0.coords t) d0 (iblk m c 0 t)) (iblk m c 1 t) (win0_2.fill (grid0.coords t) d2 (iblk m c 2 t)) _)
  isplitl [H0 H1 H2 H3 H4]
  · isplitl [H0]; · iexact H0
    isplitl [H1]; · iexact H1
    isplitl [H2]; · iexact H2
    isplitl [H3]; · iexists _; iexact H3
    iexists _; iexact H4
  iintro ⟨H0, H1, H2, H3, H4⟩
  isplitl [HΦ]; · iexact HΦ
  isplitl [Ho]; · iexact Ho
  have h0 : win0_0.cut (grid0.coords t) (values m c t) = iblk m c 0 t := win0_0.cut_fill _ _ _
  have h2 : win0_2.cut (grid0.coords t) (places m c t) = iblk m c 2 t := win0_2.cut_fill _ _ _
  have h3 := win0_3.fill_congr_cut (grid0.coords t) (cut_scaled m c t d0)
  isplitl [H0]
  · iexists d0
    change _ ⊢ owns (c : Thread nD τ) (stage0_0 (cfg0.slots t 0)) fullShare
      (win0_0.fill (grid0.coords t) d0 (win0_0.cut (grid0.coords t) (values m c t)))
    rw [h0]; try exact Entails.refl _
  isplitl [H1]
  · iexact H1
  isplitl [H2]
  · iexists d2
    change _ ⊢ owns (c : Thread nD τ) (stage0_2 (cfg0.slots t 2)) fullShare
      (win0_2.fill (grid0.coords t) d2 (win0_2.cut (grid0.coords t) (places m c t)))
    rw [h2]; try exact Entails.refl _
  isplitl [H3]
  · iexists (scaled (win0_0.fill (grid0.coords t) d0 (iblk m c 0 t)) (iblk m c 1 t))
    change _ ⊢ owns (c : Thread nD τ) (stage0_3 (cfg0.slots t 3)) fullShare
      (win0_3.fill (grid0.coords t) (scaled (win0_0.fill (grid0.coords t) d0 (iblk m c 0 t)) (iblk m c 1 t))
        (win0_3.cut (grid0.coords t) (scaled (values m c t) (iblk m c 1 t))))
    rw [h3]; try exact Entails.refl _
  · iexists d2
    change _ ⊢ owns (c : Thread nD τ) (stage0_4 (cfg0.slots t 4)) fullShare
      (win0_2.fill (grid0.coords t) d2 (win0_2.cut (grid0.coords t) (places m c t)))
    rw [h2]; try exact Entails.refl _

/-! ## The run -/

set_option backward.isDefEq.respectTransparency.types false in
/-- Every run ends, with every array at what the pipeline computes and every semaphore at zero. -/
theorem run_arrays : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := body_obligation m) (hshare := fun c => (dats m 0 c).share_full fun _ => rfl) (howed := fun _ _ => rfl)
    (V := V m) (hmain := hmain m Variants.none) (hA := A_eq m) (hΦ := fun _ _ => rfl)
    (Q' := fun r => Pipeline.FramePost cfgs (dats m) 0 (V m) r ∧ r.2.sem = fun _ => 0) (hQ' := fun _ h => h)

end Cert.KernelRun
-- ==== Proof.KernelValue.lean ====
/-
  What the kernel's two result arrays hold after the run, entry by entry: the value times its mask bit times the scale, the bit
  read from the table; and the indices unchanged.
-/
module

public import proofs.«01_k».proof.Proof.KernelRun
public import Idealize.ShloMosaic.Lib.Pipeline.ValueKit

@[expose] public section

noncomputable section

namespace Cert.KernelValue

open Cert.KernelIdeal Cert.KernelIdeal.Gen Cert.KernelBody Cert.KernelRun
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- The host line before the kernel fills the table. -/
theorem V_table (c : Dev nD) : V m c main_c = (fun i => lit0 (S98304.rowMajor i)) := by
  rfl

/-- The mask word that holds the bit of entry `n`: six blocks of 16384 words, each for 32 runs of 16384 entries. -/
def word (n : Nat) : BitVec 32 := lit0t (n / 524288 * 16384 + n % 16384)

/-- The array with the mask applied: each entry times its mask bit times the scale. -/
def masked (x : Vec F S2684354 .f32) : Vec F S2684354 .f32 := fun i =>
  FloatOps.mulf (x i) (FloatOps.mulf (FloatOps.uitofp .f32 ((word (i 0).val >>> ((i 0).val % 524288 / 16384)) &&& 1#32))
    (FloatOps.ofBits .f32 0x3F8E38E4#32))

/-- An entry of the table by its number. -/
theorem lit0_at (i : Fin 98304) : lit0 i = lit0t i.val := by
  cases i
  rfl

/-- The table's block at a point starts at 16384 times the point. -/
theorem table_place (t : Fin cfg0.N) (j : S16384.Idx) : ((win0_1.blk t).view.emb j 0).val = t.val * 16384 + (j 0).val := by
  have h : ∀ t : Fin cfg0.N, win0_1.index t 0 = t.val := by decide +kernel
  show win0_1.index t 0 * 16384 + 1 * (j 0).val = _
  rw [h]; omega

/-- A block of the value arrays starts at 524288 times the point. -/
theorem value_place (t : Fin cfg0.N) (j : (win0_3.xblock (grid0.coords t)).Idx) :
    ((win0_3.blk t).view.emb j 0).val = t.val * 524288 + (j 0).val := by
  have h : ∀ t : Fin cfg0.N, win0_3.index t 0 = t.val := by decide +kernel
  show win0_3.index t 0 * 524288 + 1 * (j 0).val = _
  rw [h]; omega

/-- The mask word that the body reads for an entry of a block is the entry's word of the table. -/
theorem block_word (c : Dev nD) (t : Fin cfg0.N) (j : S524288.Idx) :
    iblk m c 1 t (column j) = word (t.val * 524288 + (j 0).val) := by
  have hj : (j 0).val < 524288 := (j 0).isLt
  have hp : (S98304.rowMajor ((win0_1.blk t).view.emb (column j))).val = t.val * 16384 + (j 0).val % 16384 := by
    rw [Shape.rowMajor_val_one, table_place]; rfl
  have hn : t.val * 16384 + (j 0).val % 16384
      = (t.val * 524288 + (j 0).val) / 524288 * 16384 + (t.val * 524288 + (j 0).val) % 16384 := by omega
  have hv : iblk m c 1 t (column j) = lit0 (S98304.rowMajor ((win0_1.blk t).view.emb (column j))) :=
    congrFun (V_table m c) ((win0_1.blk t).view.emb (column j))
  exact hv.trans ((lit0_at _).trans (congrArg lit0t (hp.trans hn)))

/-- The value result ends as the masked array. -/
theorem final_values (c : Dev nD) : (dats m 0 c).arrAt 3 cfg0.N = masked (m ((c.tc : Thread nD τ).loc main_arg1)) := by
  refine (dats m 0 c).arrAt_eq_of_covers 3 _ (by decide +kernel) fun t hf y => ?_
  blk_simp
  have hy : (y 0).val < 524288 := (win0_3.xinj (grid0.coords t) y 0).isLt
  have hx : values m c t (win0_3.xinj (grid0.coords t) y) = m ((c.tc : Thread nD τ).loc main_arg1) ((win0_3.blk t).view.emb y) := by
    refine (win0_0.fill_xinj (grid0.coords t) _ (iblk m c 0 t) y).trans ?_
    show V m c main_arg1 ((win0_3.blk t).view.emb y) = _
    rw [V_main_arg1]
  show scaled (values m c t) (iblk m c 1 t) (win0_3.xinj (grid0.coords t) y) = _
  unfold scaled masked
  rw [hx, block_word, value_place]
  show FloatOps.mulf _ (FloatOps.mulf (FloatOps.uitofp .f32 ((word (t.val * 524288 + (y 0).val) >>> ((y 0).val / 16384)) &&& 1#32)) _) = _
  rw [show (t.val * 524288 + (y 0).val) % 524288 = (y 0).val by omega]

/-- The index result ends as the array of indices. -/
theorem final_places (c : Dev nD) : (dats m 0 c).arrAt 4 cfg0.N = m ((c.tc : Thread nD τ).loc main_arg0) := by
  refine (dats m 0 c).arrAt_eq_of_covers 4 _ (by decide +kernel) fun t hf y => ?_
  blk_simp
  show places m c t (win0_2.xinj (grid0.coords t) y) = _
  refine (win0_2.fill_xinj (grid0.coords t) _ (iblk m c 2 t) y).trans ?_
  show V m c main_arg0 ((win0_4.blk t).view.emb y) = _
  rw [V_main_arg0]

/-! ## The run -/

/-- Every run of the kernel ends with the masked values and the indices as results, the arguments as they were and every
    semaphore at zero. -/
theorem run : θ_run defs (onTc (τ := τ) (main (F := F))) ⟨m, fun _ => 0, ρ⟩ fun r =>
    (∀ c : Dev nD, r.2.mem ((c.tc : Thread nD τ).loc main_v0_0) = masked (m ((c.tc : Thread nD τ).loc main_arg1))
      ∧ r.2.mem ((c.tc : Thread nD τ).loc main_v0_1) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨((h.1 c).1 3).trans (final_values m c), ((h.1 c).1 4).trans (final_places m c),
      ((h.1 c).1 2).trans (((dats m 0 c).arrAt_in 2 rfl _).trans ((A_eq m c 2).trans (V_main_arg0 m c))),
      ((h.1 c).1 0).trans (((dats m 0 c).arrAt_in 0 rfl _).trans ((A_eq m c 0).trans (V_main_arg1 m c)))⟩, h.2⟩)
    (run_arrays m ρ)

end Cert.KernelValue
-- ==== Proof.Lanes.lean ====
/-
  Many machine words in one natural number. A row of `n` words is packed into the number whose base-2⁶⁴ digits
  they are; one operation on the number then acts on every word of the row at once. The lemmas here say so for
  the operations a counter-based generator is made of: addition, exclusive or, masking, shifting.
-/
module

public import Mathlib.Data.Nat.Bitwise
public import Mathlib.Tactic.Ring

@[expose] public section

namespace Cert.Lanes

/-- The row `f 0, …, f (n-1)` as one number: entry `j` is its digit `j` in base 2⁶⁴. -/
def row : Nat → (Nat → Nat) → Nat
  | 0, _ => 0
  | n + 1, f => 2 ^ 64 * row n (fun j => f (j + 1)) + f 0

/-- Every entry of a row fits its digit. -/
def Fits (f : Nat → Nat) : Prop := ∀ j, f j < 2 ^ 64

/-- Bit `i` of a packed row is bit `i % 64` of entry `i / 64`; past the last entry there are no bits. -/
theorem testBit_row (n : Nat) (f : Nat → Nat) (hf : Fits f) (i : Nat) :
    (row n f).testBit i = (decide (i / 64 < n) && (f (i / 64)).testBit (i % 64)) := by
  induction n generalizing f i with
  | zero => simp [row]
  | succ n ih =>
    rw [row, Nat.testBit_two_pow_mul_add _ (hf 0)]
    by_cases h : i < 64
    · simp [h, Nat.div_eq_of_lt h, Nat.mod_eq_of_lt h]
    · rw [if_neg h, ih _ (fun j => hf (j + 1))]
      obtain ⟨k, rfl⟩ : ∃ k, i = k + 64 := ⟨i - 64, by omega⟩
      have h1 : (k + 64) / 64 = k / 64 + 1 := by omega
      have h2 : (k + 64) % 64 = k % 64 := by omega
      rw [h1, h2, Nat.add_sub_cancel]
      simp

/-- A packed row depends on its entries only. -/
theorem row_congr {n : Nat} {f g : Nat → Nat} (h : ∀ j, j < n → f j = g j) : row n f = row n g := by
  induction n generalizing f g with
  | zero => rfl
  | succ n ih =>
    rw [row, row, h 0 (by omega), ih fun j hj => h (j + 1) (by omega)]

/-- Two equal packed rows have equal entries. -/
theorem row_inj {n : Nat} {f g : Nat → Nat} (hf : Fits f) (hg : Fits g) (h : row n f = row n g) (j : Nat) (hj : j < n) :
    f j = g j := by
  refine Nat.eq_of_testBit_eq fun i => ?_
  by_cases hi : i < 64
  · have := congrArg (fun x => x.testBit (64 * j + i)) h
    simp only [testBit_row _ _ hf, testBit_row _ _ hg] at this
    have h1 : (64 * j + i) / 64 = j := by omega
    have h2 : (64 * j + i) % 64 = i := by omega
    simpa [h1, h2, hj] using this
  · have hp : (2 : Nat) ^ 64 ≤ 2 ^ i := Nat.pow_le_pow_right (by omega) (by omega)
    rw [Nat.testBit_lt_two_pow (lt_of_lt_of_le (hf j) hp), Nat.testBit_lt_two_pow (lt_of_lt_of_le (hg j) hp)]

/-- Adding packed rows adds their entries. -/
theorem row_add (n : Nat) (f g : Nat → Nat) : row n f + row n g = row n (fun j => f j + g j) := by
  induction n generalizing f g with
  | zero => rfl
  | succ n ih => simp only [row, ← ih]; ring

/-- Scaling a packed row scales its entries. -/
theorem row_mul (n k : Nat) (f : Nat → Nat) : k * row n f = row n (fun j => k * f j) := by
  induction n generalizing f with
  | zero => rfl
  | succ n ih => simp only [row, ← ih]; ring

/-- Exclusive or of packed rows, entry by entry. -/
theorem row_xor (n : Nat) {f g : Nat → Nat} (hf : Fits f) (hg : Fits g) :
    row n f ^^^ row n g = row n (fun j => f j ^^^ g j) := by
  refine Nat.eq_of_testBit_eq fun i => ?_
  rw [Nat.testBit_xor, testBit_row _ _ hf, testBit_row _ _ hg, testBit_row _ _ fun j => Nat.xor_lt_two_pow (hf j) (hg j),
    Nat.testBit_xor]
  by_cases h : i / 64 < n <;> simp [h]

/-- Shifting a packed row right by `s` and keeping digits below `2^(64 - s)` shifts its entries: what crosses from
    an entry into the one below lands above the mask. -/
theorem row_shiftRight_and (n s k : Nat) (hk : s + k ≤ 64) {f : Nat → Nat} (hf : Fits f) :
    (row n f >>> s) &&& row n (fun _ => 2 ^ k - 1) = row n (fun j => (f j >>> s) &&& (2 ^ k - 1)) := by
  have hm : (2 : Nat) ^ k - 1 < 2 ^ 64 :=
    lt_of_lt_of_le (Nat.sub_lt (Nat.two_pow_pos k) one_pos) (Nat.pow_le_pow_right (by omega) (by omega))
  refine Nat.eq_of_testBit_eq fun i => ?_
  rw [Nat.testBit_and, Nat.testBit_shiftRight, testBit_row _ _ hf, testBit_row _ _ fun _ => hm,
    testBit_row _ _ fun j => lt_of_le_of_lt Nat.and_le_right hm, Nat.testBit_and, Nat.testBit_shiftRight,
    Nat.testBit_two_pow_sub_one]
  by_cases h : i % 64 < k
  · have h1 : (s + i) / 64 = i / 64 := by omega
    have h2 : (s + i) % 64 = s + i % 64 := by omega
    rw [h1, h2]
    by_cases h3 : i / 64 < n <;> simp [h, h3]
  · simp [h]

/-- Reading the lowest `m` digits keeps the first `m` entries. -/
theorem row_mod {n m : Nat} (h : m ≤ n) {f : Nat → Nat} (hf : Fits f) : row n f % 2 ^ (64 * m) = row m f := by
  refine Nat.eq_of_testBit_eq fun i => ?_
  rw [Nat.testBit_mod_two_pow, testBit_row _ _ hf, testBit_row _ _ hf]
  have : (i < 64 * m) ↔ (i / 64 < m) := by omega
  by_cases h3 : i / 64 < m
  · have : i / 64 < n := by omega
    simp [*]
  · simp [*]

/-- Two rows one after the other. -/
theorem row_append (a b : Nat) (f : Nat → Nat) :
    row (a + b) f = 2 ^ (64 * a) * row b (fun j => f (a + j)) + row a f := by
  induction a generalizing f with
  | zero => simp [row]
  | succ a ih =>
    rw [show a + 1 + b = (a + b) + 1 from by omega, row, row, ih]
    have : (fun j => f (a + j + 1)) = fun j => f (a + 1 + j) := funext fun j => by rw [show a + j + 1 = a + 1 + j from by omega]
    rw [this, show 64 * (a + 1) = 64 + 64 * a from by ring, Nat.pow_add]
    ring

/-- The row `f i, f (i+1), …` of length `2^k`, packed by halves. -/
def halves (f : Nat → Nat) : Nat → Nat → Nat
  | 0, i => f i
  | k + 1, i => 2 ^ (64 * 2 ^ k) * halves f k (i + 2 ^ k) + halves f k i

/-- Packing by halves packs the same row. -/
theorem halves_eq (f : Nat → Nat) (k i : Nat) : halves f k i = row (2 ^ k) (fun j => f (i + j)) := by
  induction k generalizing i with
  | zero => simp [halves, row]
  | succ k ih =>
    rw [halves, ih, ih, show 2 ^ (k + 1) = 2 ^ k + 2 ^ k from by ring, row_append]
    simp only [Nat.add_assoc]

/-- The row of `2^k` ones, by doubling. -/
def ones : Nat → Nat
  | 0 => 1
  | k + 1 => (2 ^ (64 * 2 ^ k) + 1) * ones k

/-- Doubling packs ones. -/
theorem ones_eq (k : Nat) : ones k = row (2 ^ k) (fun _ => 1) := by
  induction k with
  | zero => rfl
  | succ k ih => rw [ones, ih, show 2 ^ (k + 1) = 2 ^ k + 2 ^ k from by ring, row_append]; ring

/-- A constant row is a multiple of the row of ones. -/
theorem mul_ones_eq (a k : Nat) : a * ones k = row (2 ^ k) (fun _ => a) := by
  rw [ones_eq, row_mul]; simp

end Cert.Lanes

end
-- ==== Proof.Threefry.lean ====
/-
  The counter-based generator the mask is drawn with: twenty rounds of add, rotate and exclusive or on a pair of
  32-bit words, a key word added to each after every fourth round. It is written once, over any arithmetic of words
  (`Words`), and read twice: on a single 32-bit word (`word`), and on a packed row of them (`packed`). The theorem
  `draw_packed` says that one run on a packed row draws every word of the row.
-/
module

public import proofs.«01_k».proof.Proof.Lanes
public import Mathlib.Tactic.NormNum

@[expose] public section

namespace Cert.Threefry

open Cert.Lanes

/-- What the generator asks of its words: addition, exclusive or, rotation to the left, and constants. -/
structure Words (α : Type) where
  add : α → α → α
  xor : α → α → α
  rot : Nat → α → α
  const : Nat → α

variable {α : Type} (o : Words α)

/-- One round: the second word is added into the first, rotated, and crossed with the sum. -/
def round (p : α × α) (r : Nat) : α × α :=
  (o.add p.1 p.2, o.xor (o.add p.1 p.2) (o.rot r p.2))

/-- Four rounds, and a key word added to each half. -/
def group (p : α × α) (g : List Nat × Nat × Nat) : α × α :=
  let q := g.1.foldl (round o) p
  (o.add q.1 (o.const g.2.1), o.add q.2 (o.const g.2.2))

/-- The key is the pair (0, 42), its third word their exclusive or with the generator's constant. -/
def k2 : Nat := 466688986 ^^^ 42

/-- The five groups: the rotations, and the key words added after them (the second with the group's number). -/
def schedule : List (List Nat × Nat × Nat) :=
  [([13, 15, 26, 6], 42, k2 + 1), ([17, 29, 16, 24], k2, 2), ([13, 15, 26, 6], 0, 45), ([17, 29, 16, 24], 42, k2 + 4),
    ([13, 15, 26, 6], k2, 5)]

/-- The word drawn at counter `x` under the key (0, 42). -/
def draw (x : α) : α :=
  let q := schedule.foldl (group o) (o.const 0, o.add x (o.const 42))
  o.xor q.1 q.2

/-- The generator's arithmetic on one 32-bit word. -/
def word : Words (BitVec 32) where
  add := (· + ·)
  xor := (· ^^^ ·)
  rot r a := (a <<< r) ||| (a >>> (32 - r))
  const a := BitVec.ofNat 32 a

/-- The mask that keeps 32 bits of each entry of a row of `2^k`. -/
def low (k : Nat) : Nat := (2 ^ 32 - 1) * ones k

/-- The generator's arithmetic on a packed row of `2^k` words. A sum carries past its word into the upper half of
    its digit, and a rotation puts there what it shifts out; the mask clears both. -/
def packed (k : Nat) : Words Nat where
  add a b := (a + b) &&& low k
  xor a b := a ^^^ b
  rot r a := ((2 ^ r * a) &&& low k) ||| ((2 ^ r * a) >>> 32 &&& low k)
  const a := (a % 2 ^ 32) * ones k

/-- A row of words, packed. -/
def enc (k : Nat) (f : Nat → BitVec 32) : Nat := row (2 ^ k) (fun j => (f j).toNat)

/-- The values of words fit their lanes. -/
theorem fits_toNat (f : Nat → BitVec 32) : Fits fun j => (f j).toNat := fun j => by
  have := (f j).isLt
  show (f j).toNat < 2 ^ 64
  omega

/-- The low 32 bits of every lane. -/
theorem low_eq (k : Nat) : low k = row (2 ^ k) (fun _ => 2 ^ 32 - 1) := mul_ones_eq _ _

/-- Masking a packed row keeps each entry's low 32 bits. -/
theorem row_and_low (k : Nat) {f : Nat → Nat} (hf : Fits f) : row (2 ^ k) f &&& low k = row (2 ^ k) (fun j => f j % 2 ^ 32) := by
  have := row_shiftRight_and (2 ^ k) 0 32 (by omega) hf
  simp only [Nat.shiftRight_zero, Nat.and_two_pow_sub_one_eq_mod] at this
  rw [low_eq, this]

/-- Packed addition is addition of words. -/
theorem packed_add (k : Nat) (f g : Nat → BitVec 32) : (packed k).add (enc k f) (enc k g) = enc k fun j => f j + g j := by
  have h : Fits fun j => (f j).toNat + (g j).toNat := fun j => by
    have := (f j).isLt; have := (g j).isLt
    show (f j).toNat + (g j).toNat < 2 ^ 64
    omega
  show (enc k f + enc k g) &&& low k = _
  unfold enc
  rw [row_add, row_and_low k h]
  exact row_congr fun j _ => (BitVec.toNat_add _ _).symm

/-- Packed exclusive or is exclusive or of words. -/
theorem packed_xor (k : Nat) (f g : Nat → BitVec 32) : (packed k).xor (enc k f) (enc k g) = enc k fun j => f j ^^^ g j := by
  show enc k f ^^^ enc k g = _
  unfold enc
  rw [row_xor _ (fits_toNat f) (fits_toNat g)]
  exact row_congr fun j _ => (BitVec.toNat_xor _ _).symm

/-- A packed constant is the constant in every entry. -/
theorem packed_const (k a : Nat) : (packed k).const a = enc k fun _ => BitVec.ofNat 32 a := by
  show a % 2 ^ 32 * ones k = _
  rw [mul_ones_eq]
  exact row_congr fun j _ => (BitVec.toNat_ofNat _ _).symm

/-- Packed rotation is rotation of words. -/
theorem packed_rot (k r : Nat) (hr : r ≤ 32) (f : Nat → BitVec 32) :
    (packed k).rot r (enc k f) = enc k fun j => (f j <<< r) ||| (f j >>> (32 - r)) := by
  have hf : Fits fun j => 2 ^ r * (f j).toNat := fun j => by
    have h1 : (2 : Nat) ^ r ≤ 2 ^ 32 := Nat.pow_le_pow_right (by omega) hr
    show 2 ^ r * (f j).toNat < 2 ^ 64
    calc 2 ^ r * (f j).toNat ≤ 2 ^ 32 * (f j).toNat := Nat.mul_le_mul_right _ h1
      _ < 2 ^ 32 * 2 ^ 32 := Nat.mul_lt_mul_of_pos_left (f j).isLt (by omega)
      _ = 2 ^ 64 := by norm_num
  show ((2 ^ r * enc k f) &&& low k) ||| ((2 ^ r * enc k f) >>> 32 &&& low k) = _
  unfold enc
  rw [row_mul, row_and_low k hf, low_eq, row_shiftRight_and _ 32 32 (by omega) hf]
  refine Nat.eq_of_testBit_eq fun i => ?_
  have hb : ∀ x : Nat, x % 2 ^ 32 < 2 ^ 64 := fun x => lt_of_lt_of_le (Nat.mod_lt _ (by omega)) (by norm_num)
  rw [Nat.testBit_or, testBit_row _ _ fun j => hb _,
    testBit_row _ _ fun j => by rw [Nat.and_two_pow_sub_one_eq_mod]; exact hb _, testBit_row _ _ (fits_toNat _)]
  have key : ∀ a : BitVec 32, ((a <<< r) ||| (a >>> (32 - r))).toNat
      = 2 ^ r * a.toNat % 2 ^ 32 ||| ((2 ^ r * a.toNat) >>> 32 &&& (2 ^ 32 - 1)) := fun a => by
    rw [BitVec.toNat_or, BitVec.toNat_shiftLeft, BitVec.toNat_ushiftRight, Nat.shiftLeft_eq, Nat.mul_comm a.toNat,
      Nat.and_two_pow_sub_one_eq_mod]
    congr 1
    rw [Nat.shiftRight_eq_div_pow, Nat.shiftRight_eq_div_pow, Nat.mod_eq_of_lt]
    · conv_rhs => rw [show (2 : Nat) ^ 32 = 2 ^ r * 2 ^ (32 - r) from by rw [← Nat.pow_add]; congr 1; omega]
      rw [Nat.mul_div_mul_left _ _ (Nat.two_pow_pos r)]
    · rw [Nat.div_lt_iff_lt_mul (by omega)]
      calc 2 ^ r * a.toNat ≤ 2 ^ 32 * a.toNat := Nat.mul_le_mul_right _ (Nat.pow_le_pow_right (by omega) hr)
        _ < 2 ^ 32 * 2 ^ 32 := Nat.mul_lt_mul_of_pos_left a.isLt (by omega)
  rw [key, Nat.testBit_or]
  by_cases h : i / 64 < 2 ^ k <;> simp [h]

/-- One packed round is a round of every word. -/
theorem round_packed (k r : Nat) (hr : r ≤ 32) (f g : Nat → BitVec 32) :
    round (packed k) (enc k f, enc k g) r
      = (enc k fun j => (round word (f j, g j) r).1, enc k fun j => (round word (f j, g j) r).2) := by
  unfold round
  simp only [packed_add, packed_rot k r hr, packed_xor]
  rfl

/-- So is any run of rounds, -/
theorem rounds_packed (k : Nat) (l : List Nat) (hl : ∀ r ∈ l, r ≤ 32) (f g : Nat → BitVec 32) :
    l.foldl (round (packed k)) (enc k f, enc k g)
      = (enc k fun j => (l.foldl (round word) (f j, g j)).1, enc k fun j => (l.foldl (round word) (f j, g j)).2) := by
  induction l generalizing f g with
  | nil => rfl
  | cons r l ih =>
    rw [List.foldl_cons, round_packed k r (hl r (by simp)), ih fun r h => hl r (by simp [h])]
    rfl

/-- one group, -/
theorem group_packed (k : Nat) (s : List Nat × Nat × Nat) (hs : ∀ r ∈ s.1, r ≤ 32) (f g : Nat → BitVec 32) :
    group (packed k) (enc k f, enc k g) s
      = (enc k fun j => (group word (f j, g j) s).1, enc k fun j => (group word (f j, g j) s).2) := by
  unfold group
  simp only [rounds_packed k s.1 hs, packed_const, packed_add]
  rfl

/-- and any run of groups. -/
theorem groups_packed (k : Nat) (l : List (List Nat × Nat × Nat)) (hl : ∀ g ∈ l, ∀ r ∈ g.1, r ≤ 32)
    (f g : Nat → BitVec 32) :
    l.foldl (group (packed k)) (enc k f, enc k g)
      = (enc k fun j => (l.foldl (group word) (f j, g j)).1, enc k fun j => (l.foldl (group word) (f j, g j)).2) := by
  induction l generalizing f g with
  | nil => rfl
  | cons s l ih =>
    rw [List.foldl_cons, group_packed k s (hl s (by simp)), ih fun g h => hl g (by simp [h])]
    rfl

/-- One run of the generator on a packed row of counters draws the word at every counter of the row. -/
theorem draw_packed (k : Nat) (f : Nat → BitVec 32) : draw (packed k) (enc k f) = enc k fun j => draw word (f j) := by
  unfold draw
  simp only [packed_const, packed_add]
  rw [groups_packed k schedule (by decide)]
  simp only [packed_xor]
  rfl

end Cert.Threefry

end
-- ==== Proof.HostLine.lean ====
/-
  A straight line of host operations read as a list of equations. Every operation of such a line writes one buffer, and if
  the buffers are numbered in the order in which the line writes them, then after the whole line each written buffer still
  holds its operation's value of the buffers the operation read. `Ends` states what the contents at the end satisfy, and
  one rule per kind of operation adds that operation's equation to what is known of them.
-/
module

public import Idealize.ShloMosaic.Lib.StableHlo.RunHlo

@[expose] public section

namespace Cert.HostLine

open Idealize.SL.Sem Idealize.ShloMosaic Idealize.ShloMosaic.StableHlo

variable {nD : Nat} {τ : Topo} {sig : RefSig} {Val : EltTy → Type} {Λ : Labels}

/-- A buffer's number. -/
def rank (r : Ref sig .tc) : Nat := r.idx.val

/-- Buffers of different rank are different. -/
theorem ne_of_rank_lt {r s : Ref sig .tc} (h : rank r < rank s) : r ≠ s :=
  fun e => by subst e; exact Nat.lt_irrefl _ h

/-- `p` is a line of host operations on the core's buffers, each of which determines what it writes; it leaves every
    buffer numbered below `lo` alone; and the contents after it satisfy `G`, whatever they were before. -/
def Ends (lo : Nat) (p : Prog (TpuEff nD τ sig Val Λ .tc) PUnit) (G : Valuation τ sig Val → Prop) : Prop :=
  ∃ ops : List (HloOp τ sig Val), IsSeq p ops ∧ (ops.Forall fun op => op.bufs ⊆ tcRefs τ sig)
    ∧ (∀ op ∈ ops, op.fresh = ∅)
    ∧ (∀ (V : Valuation τ sig Val) (r : Ref sig .tc), rank r < lo →
        after ops V (Proc.devRef .tc r) = V (Proc.devRef .tc r))
    ∧ ∀ V : Valuation τ sig Val, G (after ops V)

/-- `p`, then `k`. -/
def Then (lo : Nat) (p k : Prog (TpuEff nD τ sig Val Λ .tc) PUnit) (G : Valuation τ sig Val → Prop) : Prop :=
  Ends lo (p >>= fun _ => k) G

variable {p q k : Prog (TpuEff nD τ sig Val Λ .tc) PUnit} {G : Valuation τ sig Val → Prop} {lo : Nat}

/-- The line that does nothing ends in contents that satisfy whatever all contents do. -/
theorem Ends.ret (h : ∀ V, G V) : Ends lo (pure ⟨⟩ : Prog (TpuEff nD τ sig Val Λ .tc) PUnit) G :=
  ⟨[], IsSeq.nil, trivial, fun _ h => absurd h List.not_mem_nil, fun _ _ _ => rfl, h⟩

/-- A block that has returned goes on with what follows it. -/
theorem Then.ret (h : Ends lo k G) : Then lo (pure ⟨⟩) k G := by
  unfold Then; rw [pure_bind]; exact h

/-- A block run inside a block. -/
theorem Then.call (h : Then lo p (q >>= fun _ => k) G) : Then lo (p >>= fun _ => q) k G := by
  unfold Then at h ⊢; rw [bind_assoc]; exact h

/-- A block run first in a line. -/
theorem Ends.call (h : Then lo p k G) : Ends lo (p >>= fun _ => k) G := h

/-- One operation: it writes `y`, from the buffers `rs`, all numbered below `y`; `eqn` says that the contents at `y` are
    the operation's value. -/
theorem Ends.step {op : HloOp τ sig Val} {y : Ref sig .tc} (rs : List (Ref sig .tc)) (eqn : Valuation τ sig Val → Prop)
    (hw : op.writes = {Proc.devRef .tc y}) (hb : op.bufs ⊆ tcRefs τ sig) (hf : op.fresh = ∅)
    (he : ∀ V V' : Valuation τ sig Val, V' (Proc.devRef .tc y) = op.result V (Proc.devRef .tc y) →
      (∀ r ∈ rs, V' (Proc.devRef .tc r) = V (Proc.devRef .tc r)) → eqn V')
    (hr : ∀ r ∈ rs, rank r < rank y) (hle : lo ≤ rank y)
    (h : Ends (rank y + 1) k fun V => eqn V → G V) :
    Ends lo ((hlo rfl op fun _ => .ret (⟨⟩ : PUnit)) >>= fun _ => k) G := by
  obtain ⟨ops, hs, hbs, hfs, hkeep, hG⟩ := h
  have hres : ∀ (V : Valuation τ sig Val) (r : Ref sig .tc), rank r < rank y →
      op.result V (Proc.devRef .tc r) = V (Proc.devRef .tc r) :=
    fun V r hlt => result_of_writes_ne op V y r hw (ne_of_rank_lt hlt)
  refine ⟨op :: ops, IsSeq.cons hs, (List.forall_cons _ _ _).mpr ⟨hb, hbs⟩, ?_, ?_, ?_⟩
  · intro o ho
    rcases List.mem_cons.mp ho with rfl | ho
    · exact hf
    · exact hfs o ho
  · intro V r hlt
    rw [after_cons, hkeep _ r (by omega), hres V r (by omega)]
  · intro V
    rw [after_cons]
    refine hG _ (he V _ (hkeep _ y (by omega)) fun r hmem => ?_)
    rw [hkeep _ r (by have := hr r hmem; omega), hres V r (hr r hmem)]

/-- A constant. -/
theorem Ends.nullary {y : Ref sig .tc} {v : y.ty.Contents Val} {hy} (hle : lo ≤ rank y)
    (h : Ends (rank y + 1) k fun V => V (Proc.devRef .tc y) = v → G V) :
    Ends lo ((hlo rfl (StableHlo.nullary (τ := τ) y v hy) fun _ => .ret (⟨⟩ : PUnit)) >>= fun _ => k) G :=
  Ends.step [] _ (nullary_writes ..) (nullary_bufs_sub ..) rfl
    (fun V V' h _ => h.trans (nullary_result y v hy V)) (fun _ h => absurd h List.not_mem_nil) hle h

/-- A function of one buffer. -/
theorem Ends.unary {x y : Ref sig .tc} {f : x.ty.Contents Val → y.ty.Contents Val} {hx hy} (hx' : rank x < rank y)
    (hle : lo ≤ rank y)
    (h : Ends (rank y + 1) k fun V => V (Proc.devRef .tc y) = f (V (Proc.devRef .tc x)) → G V) :
    Ends lo ((hlo rfl (StableHlo.unary (τ := τ) x y f hx hy) fun _ => .ret (⟨⟩ : PUnit)) >>= fun _ => k) G :=
  Ends.step [x] _ (unary_writes ..) (unary_bufs_sub ..) rfl
    (fun V V' h hrs => h.trans ((unary_result x y f hx hy V).trans (by rw [hrs x List.mem_cons_self])))
    (fun r h => by rw [List.mem_singleton.mp h]; exact hx') hle h

/-- A function of two buffers. -/
theorem Ends.binary {a b y : Ref sig .tc} {f : a.ty.Contents Val → b.ty.Contents Val → y.ty.Contents Val} {ha hb hy}
    (ha' : rank a < rank y) (hb' : rank b < rank y) (hle : lo ≤ rank y)
    (h : Ends (rank y + 1) k fun V => V (Proc.devRef .tc y) = f (V (Proc.devRef .tc a)) (V (Proc.devRef .tc b)) → G V) :
    Ends lo ((hlo rfl (StableHlo.binary (τ := τ) a b y f ha hb hy) fun _ => .ret (⟨⟩ : PUnit)) >>= fun _ => k) G :=
  Ends.step [a, b] _ (binary_writes ..) (binary_bufs_sub ..) rfl
    (fun V V' h hrs => h.trans ((binary_result a b y f ha hb hy V).trans
      (by rw [hrs a List.mem_cons_self, hrs b (List.mem_cons_of_mem _ List.mem_cons_self)])))
    (fun r h => by
      rcases List.mem_cons.mp h with rfl | h
      · exact ha'
      · rw [List.mem_singleton.mp h]; exact hb') hle h

/-- A change of shape. -/
theorem Ends.reshape {x y : Ref sig .tc} {he : x.ty.elt = y.ty.elt} {hn : x.ty.shape.ShapeCasts y.ty.shape} {hx hy} (hx' : rank x < rank y) (hle : lo ≤ rank y)
    (h : Ends (rank y + 1) k fun V =>
      (V (Proc.devRef .tc y) = fun i => he ▸ shapeCast y.ty.shape (V (Proc.devRef .tc x)) hn i) → G V) :
    Ends lo ((hlo rfl (StableHlo.reshape (τ := τ) (Val := Val) x y he hn hx hy) fun _ => .ret (⟨⟩ : PUnit)) >>= fun _ => k) G :=
  Ends.step [x] _ (reshape_writes ..) (reshape_bufs_sub ..) rfl
    (fun V V' h hrs => h.trans ((reshape_result x y he hn hx hy V).trans (by rw [hrs x List.mem_cons_self])))
    (fun r h => by rw [List.mem_singleton.mp h]; exact hx') hle h

/-- What is known at the end may be put in other words. -/
theorem Ends.mono {G' : Valuation τ sig Val → Prop} (h : Ends lo k G) (hG : ∀ V, G V → G' V) : Ends lo k G' := by
  obtain ⟨ops, hs, hbs, hfs, hkeep, hV⟩ := h
  exact ⟨ops, hs, hbs, hfs, hkeep, fun V => hG _ (hV V)⟩

/-- The contents of a typed buffer. -/
def read {T : BufTy} (x : TRef sig T) (V : Valuation τ sig Val) : T.Contents Val := x.ofBuf (V (Proc.devRef .tc x.ref))

/-- Reading a buffer through a reference, from the value that the buffer holds. -/
theorem read_of_eq {T : BufTy} (x : TRef sig T) {V : Valuation τ sig Val} {v : T.Contents Val}
    (h : V (Proc.devRef .tc x.ref) = x.toBuf v) : read x V = v := by
  rw [read, h, TRef.ofBuf_toBuf]

variable {T Ta Tb : BufTy}

/-- The rules for typed buffers, inside a block: a constant. -/
theorem Then.nullary {y : TRef sig T} {v : T.Contents Val} (hle : lo ≤ rank y.ref)
    (h : Then (rank y.ref + 1) q k fun V => read y V = v → G V) :
    Then lo ((hlo rfl (TRef.nullary (τ := τ) y v) fun _ => .ret (⟨⟩ : PUnit)) >>= fun _ => q) k G := by
  unfold Then; rw [bind_assoc]
  exact Ends.nullary hle (h.mono fun V hG e => hG (read_of_eq y e))

/-- Inside a block: a function of one buffer. -/
theorem Then.unary {a : TRef sig Ta} {y : TRef sig T} {f : Ta.Contents Val → T.Contents Val}
    (ha : rank a.ref < rank y.ref) (hle : lo ≤ rank y.ref)
    (h : Then (rank y.ref + 1) q k fun V => read y V = f (read a V) → G V) :
    Then lo ((hlo rfl (TRef.unary (τ := τ) a y f) fun _ => .ret (⟨⟩ : PUnit)) >>= fun _ => q) k G := by
  unfold Then; rw [bind_assoc]
  exact Ends.unary ha hle (h.mono fun V hG e => hG (read_of_eq y e))

/-- Inside a block: a function of two buffers. -/
theorem Then.binary {a : TRef sig Ta} {b : TRef sig Tb} {y : TRef sig T}
    {f : Ta.Contents Val → Tb.Contents Val → T.Contents Val}
    (ha : rank a.ref < rank y.ref) (hb : rank b.ref < rank y.ref) (hle : lo ≤ rank y.ref)
    (h : Then (rank y.ref + 1) q k fun V => read y V = f (read a V) (read b V) → G V) :
    Then lo ((hlo rfl (TRef.binary (τ := τ) a b y f) fun _ => .ret (⟨⟩ : PUnit)) >>= fun _ => q) k G := by
  unfold Then; rw [bind_assoc]
  exact Ends.binary ha hb hle (h.mono fun V hG e => hG (read_of_eq y e))

/-- Inside a block: a constant, the block's last operation. -/
theorem Then.nullary_last {y : TRef sig T} {v : T.Contents Val} (hle : lo ≤ rank y.ref)
    (h : Ends (rank y.ref + 1) k fun V => read y V = v → G V) :
    Then lo (hlo rfl (TRef.nullary (τ := τ) y v) fun _ => .ret (⟨⟩ : PUnit)) k G :=
  Ends.nullary hle (h.mono fun V hG e => hG (read_of_eq y e))

/-- Inside a block: a function of one buffer, the block's last operation. -/
theorem Then.unary_last {a : TRef sig Ta} {y : TRef sig T} {f : Ta.Contents Val → T.Contents Val}
    (ha : rank a.ref < rank y.ref) (hle : lo ≤ rank y.ref)
    (h : Ends (rank y.ref + 1) k fun V => read y V = f (read a V) → G V) :
    Then lo (hlo rfl (TRef.unary (τ := τ) a y f) fun _ => .ret (⟨⟩ : PUnit)) k G :=
  Ends.unary ha hle (h.mono fun V hG e => hG (read_of_eq y e))

/-- Inside a block: a function of two buffers, the block's last operation. -/
theorem Then.binary_last {a : TRef sig Ta} {b : TRef sig Tb} {y : TRef sig T}
    {f : Ta.Contents Val → Tb.Contents Val → T.Contents Val}
    (ha : rank a.ref < rank y.ref) (hb : rank b.ref < rank y.ref) (hle : lo ≤ rank y.ref)
    (h : Ends (rank y.ref + 1) k fun V => read y V = f (read a V) (read b V) → G V) :
    Then lo (hlo rfl (TRef.binary (τ := τ) a b y f) fun _ => .ret (⟨⟩ : PUnit)) k G :=
  Ends.binary ha hb hle (h.mono fun V hG e => hG (read_of_eq y e))

/-- A change of shape, at types equal to the two. -/
theorem cast_reshape {s t : Shape} {e : EltTy} {X Y : BufTy} (hX : X = ⟨s, e⟩) (hY : Y = ⟨t, e⟩) (hn : s.ShapeCasts t)
    (u : X.Contents Val) (w : Y.Contents Val) (he' : X.elt = Y.elt) (hn' : X.shape.ShapeCasts Y.shape)
    (h : w = fun i => he' ▸ shapeCast Y.shape u hn' i) :
    (cast (congrArg (fun U : BufTy => U.Contents Val) hY) w : BufTy.Contents Val ⟨t, e⟩)
      = shapeCast t (cast (congrArg (fun U : BufTy => U.Contents Val) hX) u : BufTy.Contents Val ⟨s, e⟩) hn := by
  subst hX hY
  exact h

/-- Reading through a change of shape at one element type. -/
theorem read_of_reshape {s t : Shape} {e : EltTy} (x : TRef sig ⟨s, e⟩) (y : TRef sig ⟨t, e⟩) (hn : s.ShapeCasts t)
    {V : Valuation τ sig Val}
    (he' : x.ref.ty.elt = y.ref.ty.elt) (hn' : x.ref.ty.shape.ShapeCasts y.ref.ty.shape)
    (h : V (Proc.devRef .tc y.ref) = fun i => he' ▸ shapeCast y.ref.ty.shape (V (Proc.devRef .tc x.ref)) hn' i) :
    read y V = shapeCast t (read x V) hn :=
  cast_reshape x.ty_eq y.ty_eq hn _ _ he' hn' h

/-- Inside a block: a change of shape. -/
theorem Then.reshape {s t : Shape} {e : EltTy} {x : TRef sig ⟨s, e⟩} {y : TRef sig ⟨t, e⟩} {he : e = e}
    {hn : s.ShapeCasts t} (hx : rank x.ref < rank y.ref) (hle : lo ≤ rank y.ref)
    (h : Then (rank y.ref + 1) q k fun V => read y V = shapeCast t (read x V) hn → G V) :
    Then lo ((hlo rfl (TRef.reshape (τ := τ) (Val := Val) x y he hn) fun _ => .ret (⟨⟩ : PUnit)) >>= fun _ => q) k G := by
  unfold Then; rw [bind_assoc]
  exact Ends.reshape hx hle (h.mono fun V hG e => hG (read_of_reshape x y hn _ _ e))

end Cert.HostLine

end
-- ==== Proof.RefDraw.lean ====
/-
  The draw in the reference. Its generator is a block of 223 operations on whole arrays; read at one index, nine of them make
  one round of the generator and seven add the key words after a group of four rounds, so at every index the block computes
  `draw` of the counter it is given there.
-/
module

public import proofs.«01_k».proof.Proof.Threefry
public import proofs.«01_k».proof.Proof.HostLine
public import proofs.«01_k».proof.ReferenceIdeal

@[expose] public section

namespace Cert.RefDraw

open Idealize.SL.Sem Idealize.ShloMosaic Idealize.ShloMosaic.StableHlo
open Cert.HostLine Cert.Threefry Cert.ReferenceIdeal

variable {F : FTy → Type} [FloatOps F]

/-- A shift to the left by less than the width. -/
theorem shl_at (x : BitVec 32) (r : Nat) (hr : r < 32) : IntOp.shli .host x (BitVec.ofNat 32 r) = x <<< r := by
  have h : (BitVec.ofNat 32 r).toNat = r := by rw [BitVec.toNat_ofNat]; omega
  rw [IntOp.shli, h, if_pos hr, BitVec.shiftLeft_eq', h]

/-- A shift to the right by less than the width. -/
theorem shr_at (x : BitVec 32) (r : Nat) (hr : r < 32) : IntOp.shrui .host x (BitVec.ofNat 32 r) = x >>> r := by
  have h : (BitVec.ofNat 32 r).toNat = r := by rw [BitVec.toNat_ofNat]; omega
  rw [IntOp.shrui, h, if_pos hr, BitVec.ushiftRight_eq', h]

section Stages

variable {s : Shape} {hb : S_.BroadcastsInDim s (![] : Fin 0 → Fin s.rank)}

/-- Nine operations are one round at every index. -/
theorem round_of {a b t l m u w n x : IVec s 32} {c d : IVec S_ 32} {r r' : Nat}
    (ht : t = addi a b) (hc : c = constantI S_ 32 (BitVec.ofNat 32 r)) (hl : l = broadcastInDim s ![] hb c)
    (hm : m = Host.shli b l) (hd : d = constantI S_ 32 (BitVec.ofNat 32 r')) (hu : u = broadcastInDim s ![] hb d)
    (hw : w = Host.shrui b u) (hn : n = ori m w) (hx : x = xori t n)
    (hr : r < 32 := by decide) (hr' : 32 - r = r' := by decide) (hpos : r' < 32 := by decide)
    (i : s.Idx) {p : BitVec 32 × BitVec 32} (h : (a i, b i) = p) : (t i, x i) = round word p r := by
  subst ht hc hl hm hd hu hw hn hx h
  refine Prod.ext rfl ?_
  show (a i + b i) ^^^ (IntOp.shli .host (b i) (BitVec.ofNat 32 r) ||| IntOp.shrui .host (b i) (BitVec.ofNat 32 r'))
    = (a i + b i) ^^^ ((b i <<< r) ||| (b i >>> (32 - r)))
  rw [shl_at _ _ hr, shr_at _ _ hpos, hr']

/-- Seven operations add the key words at every index. -/
theorem key_of {a b y l t m u z : IVec s 32} {κ κ' c : IVec S_ 32} {v n : BitVec 32} {k k' : Nat}
    (hl : l = broadcastInDim s ![] hb κ) (hy : y = addi a l) (hm : m = broadcastInDim s ![] hb κ') (ht : t = addi b m)
    (hc : c = constantI S_ 32 n) (hu : u = broadcastInDim s ![] hb c) (hz : z = addi t u)
    (hκ : κ = fun _ => BitVec.ofNat 32 k) (hκ' : κ' = fun _ => v) (hn : v + n = BitVec.ofNat 32 k')
    (i : s.Idx) {p : BitVec 32 × BitVec 32} (h : (a i, b i) = p) :
    (y i, z i) = (word.add p.1 (word.const k), word.add p.2 (word.const k')) := by
  subst hl hy hm ht hc hu hz hκ hκ' h
  refine Prod.ext rfl ?_
  show b i + v + n = b i + BitVec.ofNat 32 k'
  rw [BitVec.add_assoc, hn]

end Stages

/-- The key's two words, and the third made of them. -/
theorem third_of {a b x c y : IVec S_ 32} (hx : x = xori a b) (hc : c = constantI S_ 32 466688986#32) (hy : y = xori x c)
    (ha : a = fun _ => BitVec.ofNat 32 0) (hb : b = fun _ => BitVec.ofNat 32 42) : y = fun _ => BitVec.ofNat 32 k2 := by
  subst hx hc hy ha hb
  funext i
  show (BitVec.ofNat 32 0 ^^^ BitVec.ofNat 32 42) ^^^ 466688986#32 = BitVec.ofNat 32 k2
  decide

/-- The pair the rounds start from. -/
theorem start_of {s : Shape} {hb : S_.BroadcastsInDim s (![] : Fin 0 → Fin s.rank)} {a b l m y z : IVec s 32} {κ κ' : IVec S_ 32}
    (hl : l = broadcastInDim s ![] hb κ) (hy : y = addi a l) (hm : m = broadcastInDim s ![] hb κ') (hz : z = addi b m)
    (hκ : κ = fun _ => BitVec.ofNat 32 0) (hκ' : κ' = fun _ => BitVec.ofNat 32 42) (i : s.Idx) (ha : a i = 0) :
    (y i, z i) = (word.const 0, word.add (b i) (word.const 42)) := by
  subst hl hy hm hz hκ hκ'
  refine Prod.ext ?_ rfl
  show a i + BitVec.ofNat 32 0 = BitVec.ofNat 32 0
  rw [ha]; decide

variable [Facts]

/-- A program on a core of this module. -/
abbrev Host (F : FTy → Type) : Type 1 :=
  Prog (TpuEff nD τ sig (Elt F) (Pipeline.Sig Λ₀ (Fin 0) fun p => (pcfgs (F := F) p).Adm) .tc) PUnit

/-- The counters and the key's words as the block is called with. -/
abbrev key0 : TRef sig ⟨S_, .i32⟩ := main_call0.v5
@[inherit_doc key0] abbrev key1 : TRef sig ⟨S_, .i32⟩ := main_call0.v7
@[inherit_doc key0] abbrev high : TRef sig ⟨S2684354, .i32⟩ := main_call0.v14
@[inherit_doc key0] abbrev counter : TRef sig ⟨S2684354, .i32⟩ := main_call0.v13

/-- What the block leaves: under the key (0, 42), at an index whose counter fits in one word, the two results crossed are
    the draw at that counter. -/
def Drawn (V : Valuation τ sig (Elt F)) : Prop :=
  read key0 V = (fun _ => BitVec.ofNat 32 0) → read key1 V = (fun _ => BitVec.ofNat 32 42) →
    ∀ i : S2684354.Idx, (read high V : IVec S2684354 32) i = 0 →
      xori (read main_call0_call0.v171 V : IVec S2684354 32) (read main_call0_call0.v175 V) i
        = draw word ((read counter V : IVec S2684354 32) i)

set_option maxHeartbeats 4000000 in
set_option maxRecDepth 8000 in
/-- The generator's block computes `draw` at every index. -/
theorem draws {k : Host F} {G : Valuation τ sig (Elt F) → Prop}
    (h : Ends 253 k fun V => Drawn V → G V) :
    Then 31 (fn_threefry2x32.body (F := F) key0 key1 high counter main_call0_call0) k G := by
  unfold fn_threefry2x32.body fn_threefry2x32.body_part0 fn_threefry2x32.body_part1 fn_threefry2x32.body_part2
    fn_threefry2x32.body_part3
  apply Then.call
  repeat (first
    | (with_reducible refine Then.nullary ?_ ?_); decide
    | (with_reducible refine Then.unary ?_ ?_ ?_); iterate 2 decide
    | (with_reducible refine Then.binary ?_ ?_ ?_ ?_); iterate 3 decide)
  first
    | (with_reducible refine Then.binary_last ?_ ?_ ?_ ?_); iterate 3 decide
    | (with_reducible refine Then.unary_last ?_ ?_ ?_); iterate 2 decide
    | (with_reducible refine Then.nullary_last ?_ ?_); decide
  rw [← Then]
  apply Then.call
  repeat (first
    | (with_reducible refine Then.nullary ?_ ?_); decide
    | (with_reducible refine Then.unary ?_ ?_ ?_); iterate 2 decide
    | (with_reducible refine Then.binary ?_ ?_ ?_ ?_); iterate 3 decide)
  first
    | (with_reducible refine Then.binary_last ?_ ?_ ?_ ?_); iterate 3 decide
    | (with_reducible refine Then.unary_last ?_ ?_ ?_); iterate 2 decide
    | (with_reducible refine Then.nullary_last ?_ ?_); decide
  rw [← Then]
  apply Then.call
  repeat (first
    | (with_reducible refine Then.nullary ?_ ?_); decide
    | (with_reducible refine Then.unary ?_ ?_ ?_); iterate 2 decide
    | (with_reducible refine Then.binary ?_ ?_ ?_ ?_); iterate 3 decide)
  first
    | (with_reducible refine Then.binary_last ?_ ?_ ?_ ?_); iterate 3 decide
    | (with_reducible refine Then.unary_last ?_ ?_ ?_); iterate 2 decide
    | (with_reducible refine Then.nullary_last ?_ ?_); decide
  rw [← Then]
  repeat (first
    | (with_reducible refine Then.nullary ?_ ?_); decide
    | (with_reducible refine Then.unary ?_ ?_ ?_); iterate 2 decide
    | (with_reducible refine Then.binary ?_ ?_ ?_ ?_); iterate 3 decide)
  refine Then.ret (h.mono fun V hG
    ev175 ev174 ek44 ev173 ev172 ev171 ev170 ev169 ev168 ev167 ev166 ek43 ev165 ev164 ek42 ev163 ev162 ev161
    ev160 ev159 ek41 ev158 ev157 ek40 ev156 ev155 ev154 ev153 ev152 ek39 ev151 ev150 ek38 ev149 ev148 ev147 ev146
    ev145 ek37 ev144 ev143 ek36 ev142 ev141 ev140 ek35 ev139 ev138 ev137 ev136 ev135 ev134 ev133 ev132 ek34 ev131
    ev130 ek33 ev129 ev128 ev127 ev126 ev125 ek32 ev124 ev123 ek31 ev122 ev121 ev120 ev119 ev118 ek30 ev117 ev116
    ek29 ev115 ev114 ev113 ev112 ev111 ek28 ev110 ev109 ek27 ev108 ev107 ev106 ek26 ev105 ev104 ev103 ev102 ev101
    ev100 ev99 ev98 ek25 ev97 ev96 ek24 ev95 ev94 ev93 ev92 ev91 ek23 ev90 ev89 ek22 ev88 ev87 ev86 ev85 ev84
    ek21 ev83 ev82 ek20 ev81 ev80 ev79 ev78 ev77 ek19 ev76 ev75 ek18 ev74 ev73 ev72 ek17 ev71 ev70 ev69 ev68 ev67
    ev66 ev65 ev64 ek16 ev63 ev62 ek15 ev61 ev60 ev59 ev58 ev57 ek14 ev56 ev55 ek13 ev54 ev53 ev52 ev51 ev50 ek12
    ev49 ev48 ek11 ev47 ev46 ev45 ev44 ev43 ek10 ev42 ev41 ek9 ev40 ev39 ev38 ek8 ev37 ev36 ev35 ev34 ev33 ev32
    ev31 ev30 ek7 ev29 ev28 ek6 ev27 ev26 ev25 ev24 ev23 ek5 ev22 ev21 ek4 ev20 ev19 ev18 ev17 ev16 ek3 ev15 ev14
    ek2 ev13 ev12 ev11 ev10 ev9 ek1 ev8 ev7 ek0 ev6 ev5 ev4 ev3 ev2 ev1 ek ev0 => hG fun hA0 hA1 i hi => ?_)
  have hK := third_of ev0 ek ev1 hA0 hA1
  have g0 := start_of ev2 ev3 ev4 ev5 hA0 hA1 i hi
  have r00 := round_of ev6 ek0 ev7 ev8 ek1 ev9 ev10 ev11 ev12 (i := i) (h := g0)
  have r01 := round_of ev13 ek2 ev14 ev15 ek3 ev16 ev17 ev18 ev19 (i := i) (h := r00)
  have r02 := round_of ev20 ek4 ev21 ev22 ek5 ev23 ev24 ev25 ev26 (i := i) (h := r01)
  have r03 := round_of ev27 ek6 ev28 ev29 ek7 ev30 ev31 ev32 ev33 (i := i) (h := r02)
  have g1 := key_of (k := 42) (k' := (k2 + 1)) ev34 ev35 ev36 ev37 ek8 ev38 ev39 hA1 hK (by decide) i r03
  have r10 := round_of ev40 ek9 ev41 ev42 ek10 ev43 ev44 ev45 ev46 (i := i) (h := g1)
  have r11 := round_of ev47 ek11 ev48 ev49 ek12 ev50 ev51 ev52 ev53 (i := i) (h := r10)
  have r12 := round_of ev54 ek13 ev55 ev56 ek14 ev57 ev58 ev59 ev60 (i := i) (h := r11)
  have r13 := round_of ev61 ek15 ev62 ev63 ek16 ev64 ev65 ev66 ev67 (i := i) (h := r12)
  have g2 := key_of (k := k2) (k' := 2) ev68 ev69 ev70 ev71 ek17 ev72 ev73 hK hA0 (by decide) i r13
  have r20 := round_of ev74 ek18 ev75 ev76 ek19 ev77 ev78 ev79 ev80 (i := i) (h := g2)
  have r21 := round_of ev81 ek20 ev82 ev83 ek21 ev84 ev85 ev86 ev87 (i := i) (h := r20)
  have r22 := round_of ev88 ek22 ev89 ev90 ek23 ev91 ev92 ev93 ev94 (i := i) (h := r21)
  have r23 := round_of ev95 ek24 ev96 ev97 ek25 ev98 ev99 ev100 ev101 (i := i) (h := r22)
  have g3 := key_of (k := 0) (k' := 45) ev102 ev103 ev104 ev105 ek26 ev106 ev107 hA0 hA1 (by decide) i r23
  have r30 := round_of ev108 ek27 ev109 ev110 ek28 ev111 ev112 ev113 ev114 (i := i) (h := g3)
  have r31 := round_of ev115 ek29 ev116 ev117 ek30 ev118 ev119 ev120 ev121 (i := i) (h := r30)
  have r32 := round_of ev122 ek31 ev123 ev124 ek32 ev125 ev126 ev127 ev128 (i := i) (h := r31)
  have r33 := round_of ev129 ek33 ev130 ev131 ek34 ev132 ev133 ev134 ev135 (i := i) (h := r32)
  have g4 := key_of (k := 42) (k' := (k2 + 4)) ev136 ev137 ev138 ev139 ek35 ev140 ev141 hA1 hK (by decide) i r33
  have r40 := round_of ev142 ek36 ev143 ev144 ek37 ev145 ev146 ev147 ev148 (i := i) (h := g4)
  have r41 := round_of ev149 ek38 ev150 ev151 ek39 ev152 ev153 ev154 ev155 (i := i) (h := r40)
  have r42 := round_of ev156 ek40 ev157 ev158 ek41 ev159 ev160 ev161 ev162 (i := i) (h := r41)
  have r43 := round_of ev163 ek42 ev164 ev165 ek43 ev166 ev167 ev168 ev169 (i := i) (h := r42)
  have g5 := key_of (k := k2) (k' := 5) ev170 ev171 ev172 ev173 ek44 ev174 ev175 hK hA0 (by decide) i r43
  exact (congrArg (fun p : BitVec 32 × BitVec 32 => p.1 ^^^ p.2) g5).trans rfl

end Cert.RefDraw

end
-- ==== Proof.RefRun.lean ====
/-
  The reference's run. Its line of operations leaves, in the result, the argument times the mask drawn at each index times
  the scale; the arguments keep their contents.
-/
module

public import proofs.«01_k».proof.Proof.RefDraw
public import Idealize.ShloMosaic.Lib.Quiescent

@[expose] public section

namespace Cert.RefRun

open Idealize.SL.Sem Idealize.ShloMosaic Idealize.ShloMosaic.StableHlo
open Cert.HostLine Cert.Threefry Cert.ReferenceIdeal Cert.RefDraw
open Facts₀ Facts

variable {F : FTy → Type} [FloatOps F]

/-- The uniform number made of a drawn word: its upper 23 bits become the fraction of a number in [1, 2), one is taken off,
    and the result is stretched to [0, 1) and kept from falling below 0. -/
def uniform (u : BitVec 32) : F .f32 :=
  let zero : F .f32 := FloatOps.ofBits .f32 0x00000000#32
  let one : F .f32 := FloatOps.ofBits .f32 0x3F800000#32
  FloatOps.maximumf zero (FloatOps.addf (FloatOps.mulf
    (FloatOps.subf (FloatOps.ofBits .f32 ((u >>> 9) ||| 1065353216#32)) one) (FloatOps.subf one zero)) zero)

/-- The mask's value for a drawn word: one or zero. -/
def keep (u : BitVec 32) : F .f32 :=
  FloatOps.hostUnary .floor (FloatOps.addf (uniform u) (FloatOps.ofBits .f32 0x3F666666#32))

/-- The result: the argument, masked and scaled. -/
def dropped (x : FVec F S2684354 .f32) : FVec F S2684354 .f32 := fun i =>
  FloatOps.mulf (FloatOps.mulf (x i) (keep (draw word (BitVec.ofNat 32 (i 0).val)))) (FloatOps.ofBits .f32 0x3F8E38E4#32)

/-- The key's two words, read back out of the array that holds both. -/
theorem key_words {a b : IVec S1 32} {v w : BitVec 32} (ha : a = fun _ => v) (hb : b = fun _ => w)
    (h : Shape.Concatenates [S1, S1] S2 0) (h0 : S2.Slices ![0] S1) (h1 : S2.Slices ![1] S1) (hc : S1.ShapeCasts S_) :
    shapeCast S_ (extractStridedSlice S1 ![0] (concatenate S2 0 [⟨S1, a⟩, ⟨S1, b⟩] h) h0) hc = (fun _ => v)
      ∧ shapeCast S_ (extractStridedSlice S1 ![1] (concatenate S2 0 [⟨S1, a⟩, ⟨S1, b⟩] h) h1) hc = (fun _ => w) := by
  subst ha hb
  refine ⟨?_, ?_⟩
  · funext j
    have hj : (Shape.reshapeEquiv hc j) = fun a => ⟨0, by fin_cases a; decide⟩ := by
      funext a; apply Fin.ext; fin_cases a
      exact Nat.lt_one_iff.mp ((Shape.reshapeEquiv hc j) 0).isLt
    rw [shapeCast, hj]
    rfl
  · funext j
    have hj : (Shape.reshapeEquiv hc j) = fun a => ⟨0, by fin_cases a; decide⟩ := by
      funext a; apply Fin.ext; fin_cases a
      exact Nat.lt_one_iff.mp ((Shape.reshapeEquiv hc j) 0).isLt
    rw [shapeCast, hj]
    rfl

/-- The counter fits in one word. -/
theorem counter_of {x : BitVec 64} {n : Nat} (hx : x = 1#64 * BitVec.ofNat 64 n) (hn : n < 2 ^ 32) :
    x.setWidth 32 = BitVec.ofNat 32 n ∧ (IntOp.shrui .host x 32#64).setWidth 32 = 0 := by
  subst hx
  refine ⟨?_, ?_⟩
  · rw [BitVec.one_mul]
    apply BitVec.eq_of_toNat_eq
    rw [BitVec.toNat_setWidth, BitVec.toNat_ofNat, BitVec.toNat_ofNat]
    omega
  · rw [BitVec.one_mul, IntOp.shrui, if_pos (by decide), BitVec.ushiftRight_eq']
    apply BitVec.eq_of_toNat_eq
    rw [BitVec.toNat_setWidth, BitVec.toNat_ushiftRight, BitVec.toNat_ofNat]
    show (n % 2 ^ 64) >>> 32 % 2 ^ 32 = 0
    have h64 : n % 2 ^ 64 = n := Nat.mod_eq_of_lt (by omega)
    rw [h64, Nat.shiftRight_eq_div_pow, Nat.div_eq_of_lt hn]

variable [Facts]

set_option maxHeartbeats 4000000 in
set_option maxRecDepth 8000 in
/-- What the contents satisfy after the reference. -/
theorem main_ends (d : Dev nD) : Ends 2 (main (F := F) d) fun V =>
    V (Proc.devRef .tc main_v13) = dropped (V (Proc.devRef .tc main_arg1)) := by
  unfold main
  repeat (first
    | (with_reducible refine Ends.nullary ?_ ?_); decide
    | (with_reducible refine Ends.unary ?_ ?_ ?_); iterate 2 decide
    | (with_reducible refine Ends.binary ?_ ?_ ?_ ?_); iterate 3 decide)
  apply Ends.call
  unfold fn_uniform.body
  repeat (first
    | (with_reducible refine Then.nullary ?_ ?_); decide
    | (with_reducible refine Then.unary ?_ ?_ ?_); iterate 2 decide
    | (with_reducible refine Then.reshape ?_ ?_ ?_); iterate 2 decide
    | (with_reducible refine Then.binary ?_ ?_ ?_ ?_); iterate 3 decide)
  apply Then.call
  refine draws ?_
  rw [← Then]
  repeat (first
    | (with_reducible refine Then.nullary ?_ ?_); decide
    | (with_reducible refine Then.unary ?_ ?_ ?_); iterate 2 decide
    | (with_reducible refine Then.binary ?_ ?_ ?_ ?_); iterate 3 decide)
  refine Then.ret ?_
  repeat (first
    | (with_reducible refine Ends.nullary ?_ ?_); decide
    | (with_reducible refine Ends.unary ?_ ?_ ?_); iterate 2 decide
    | (with_reducible refine Ends.binary ?_ ?_ ?_ ?_); iterate 3 decide)
  refine Ends.ret fun V m13 m12 mcst4 m11 m10 m9 m8 mcst3 u30 u29 u28 u27 u26 u25 u24 u23 u22 ucst u21 u20 u19 uc2 u18 u17 uc1 u16 hD u14
    u13 u12 u11 uc0 u10 u9 uc u8 u7 u6 u5 u4 u3 u2 u1 u0 mcst2 mcst m6 m5 m4 m3 mc1 m2 m1 m0 mc0 mc => ?_
  have hw0 : V (Proc.devRef .tc main_v2) = fun _ => BitVec.ofNat 32 0 := by
    rw [m2, m1, m0, mc, mc0]; rfl
  have hw1 : V (Proc.devRef .tc main_v5) = fun _ => BitVec.ofNat 32 42 := by
    rw [m5, m4, m3, mc, mc1]
    exact funext fun _ => (by decide : 42#32 &&& 4294967295#32 = BitVec.ofNat 32 42)
  have hkeys := key_words hw0 hw1 concatenates_S1_S1_S2_d0 slices_S2_S1_0 slices_S2_S1_1 shapeCasts_S1_S_
  have h6 : read (.of main_v6 : TRef sig ⟨S2, .i32⟩) V = _ := m6
  have hk0 : read key0 V = fun _ => BitVec.ofNat 32 0 := by rw [u5, u4, h6]; exact hkeys.1
  have hk1 : read key1 V = fun _ => BitVec.ofNat 32 42 := by rw [u7, u6, h6]; exact hkeys.2
  have hcount : ∀ i : S2684354.Idx, (read counter V : IVec S2684354 32) i = BitVec.ofNat 32 (i 0).val
      ∧ (read high V : IVec S2684354 32) i = 0 := by
    intro i
    have := counter_of (n := (i 0).val) rfl (lt_trans (i 0).isLt (by decide))
    rw [u13, u14, u12, u11, uc0, u10, u9, uc, u8]
    exact this
  have hdraw := fun i => (hD hk0 hk1 i (hcount i).2).trans (congrArg (draw word) (hcount i).1)
  have hz : read (.of main_cst : TRef sig ⟨S_, .f32⟩) V = _ := mcst
  have ho : read (.of main_cst_2 : TRef sig ⟨S_, .f32⟩) V = _ := mcst2
  have h7 : V (Proc.devRef .tc main_v7) = fun i : S2684354.Idx => uniform (F := F) (draw word (BitVec.ofNat 32 (i 0).val)) := by
    refine (show V (Proc.devRef .tc main_v7) = read main_call0.v30 V from rfl).trans ?_
    rw [u30, u29, u28, u27, u26, u25, u24, u23, u22, ucst, u21, u20, u19, uc2, u18, u17, uc1, u16, u3, u2, u1, u0, hz, ho]
    funext i
    have hshift : IntOp.shrui .host (draw word (BitVec.ofNat 32 (i 0).val)) 9#32
        = draw word (BitVec.ofNat 32 (i 0).val) >>> 9 := shr_at _ 9 (by decide)
    unfold uniform
    rw [← hshift, ← hdraw i]
    rfl
  rw [m13, m12, mcst4, m11, m10, m9, m8, mcst3, h7]
  rfl

/-- Every weakly fair run of the reference from zero counters ends with the result as stated, the arguments as they were,
    and every counter zero. -/
theorem run (m : (ℓ : Loc nD τ sig) → Buf (Elt F) ℓ) (ρ : Dev nD → PrngReg) :
    θ_run (defs (F := F)) (onTc (main (F := F))) ⟨m, fun _ => 0, ρ⟩ fun r =>
      (∀ d : Dev nD, r.2.mem ((d.tc : Thread nD τ).loc main_v13) = dropped (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1))
      ∧ r.2.sem = fun _ => 0 := by
  choose ops hs hb hf hkeep hV using fun d => main_ends (F := F) d
  refine θ_run_mono (run_seq (by decide) (by decide) defs main ops hs hb m ρ hf) fun r hr => ⟨fun d => ?_, ?_⟩
  · have h1 := hkeep d (launchContents m d) main_arg1 (by decide)
    refine ⟨(hr d main_v13).trans ((hV d _).trans ?_), (hr d main_arg0).trans (hkeep d _ main_arg0 (by decide)),
      (hr d main_arg1).trans h1⟩
    rw [h1]
  · exact sem_eq_zero_of_no_sems rfl _

end Cert.RefRun

end
-- ==== Proof.Digits.lean ====
/-
  How the printed mask table is read. The program writes its table as a tree of matches on the digits of the index:
  runs of 128 entries, 128 runs to a part, six parts. `leaf` and `node` turn the two lower levels into lists, and
  `part_row` packs a part's entries, in order, into one number.
-/
module

public import proofs.«01_k».proof.Proof.Lanes
public import Mathlib.Tactic.IntervalCases

@[expose] public section

namespace Cert.Table

open Cert.Lanes

/-- `f` reads a run of 128 entries, listed by `l`, at its index's low digit. -/
def Leaf (f : Nat → BitVec 32) (l : List (BitVec 32)) : Prop :=
  l.length = 128 ∧ ∀ i, f i = l.getD (i % 128) 0

/-- `f` reads a part of 128 runs, listed by `l`, at its index's next digit. -/
def Node (f : Nat → BitVec 32) (l : List (Nat → BitVec 32)) : Prop :=
  l.length = 128 ∧ ∀ i, f i = l.getD (i / 128 % 128) 0 i

/-- A run of 128 entries is printed as a match of the index's low digit against 0, …, 127: entry `k` is the arm `k`. -/
theorem leaf
    (a0 a1 a2 a3 a4 a5 a6 a7 a8 a9 a10 a11 a12 a13 a14 a15 a16 a17 a18 a19 a20 a21 a22 a23 a24 a25 a26 a27 a28 a29 a30
    a31 a32 a33 a34 a35 a36 a37 a38 a39 a40 a41 a42 a43 a44 a45 a46 a47 a48 a49 a50 a51 a52 a53 a54 a55 a56 a57 a58
    a59 a60 a61 a62 a63 a64 a65 a66 a67 a68 a69 a70 a71 a72 a73 a74 a75 a76 a77 a78 a79 a80 a81 a82 a83 a84 a85 a86
    a87 a88 a89 a90 a91 a92 a93 a94 a95 a96 a97 a98 a99 a100 a101 a102 a103 a104 a105 a106 a107 a108 a109 a110 a111
    a112 a113 a114 a115 a116 a117 a118 a119 a120 a121 a122 a123 a124 a125 a126 a127 d : BitVec 32) :
    Leaf (fun i => match (generalizing := false) i % 128 with
    | 0 => a0 | 1 => a1 | 2 => a2 | 3 => a3 | 4 => a4 | 5 => a5 | 6 => a6 | 7 => a7 | 8 => a8 | 9 => a9 | 10 => a10
    | 11 => a11 | 12 => a12 | 13 => a13 | 14 => a14 | 15 => a15 | 16 => a16 | 17 => a17 | 18 => a18 | 19 => a19
    | 20 => a20 | 21 => a21 | 22 => a22 | 23 => a23 | 24 => a24 | 25 => a25 | 26 => a26 | 27 => a27 | 28 => a28
    | 29 => a29 | 30 => a30 | 31 => a31 | 32 => a32 | 33 => a33 | 34 => a34 | 35 => a35 | 36 => a36 | 37 => a37
    | 38 => a38 | 39 => a39 | 40 => a40 | 41 => a41 | 42 => a42 | 43 => a43 | 44 => a44 | 45 => a45 | 46 => a46
    | 47 => a47 | 48 => a48 | 49 => a49 | 50 => a50 | 51 => a51 | 52 => a52 | 53 => a53 | 54 => a54 | 55 => a55
    | 56 => a56 | 57 => a57 | 58 => a58 | 59 => a59 | 60 => a60 | 61 => a61 | 62 => a62 | 63 => a63 | 64 => a64
    | 65 => a65 | 66 => a66 | 67 => a67 | 68 => a68 | 69 => a69 | 70 => a70 | 71 => a71 | 72 => a72 | 73 => a73
    | 74 => a74 | 75 => a75 | 76 => a76 | 77 => a77 | 78 => a78 | 79 => a79 | 80 => a80 | 81 => a81 | 82 => a82
    | 83 => a83 | 84 => a84 | 85 => a85 | 86 => a86 | 87 => a87 | 88 => a88 | 89 => a89 | 90 => a90 | 91 => a91
    | 92 => a92 | 93 => a93 | 94 => a94 | 95 => a95 | 96 => a96 | 97 => a97 | 98 => a98 | 99 => a99 | 100 => a100
    | 101 => a101 | 102 => a102 | 103 => a103 | 104 => a104 | 105 => a105 | 106 => a106 | 107 => a107 | 108 => a108
    | 109 => a109 | 110 => a110 | 111 => a111 | 112 => a112 | 113 => a113 | 114 => a114 | 115 => a115 | 116 => a116
    | 117 => a117 | 118 => a118 | 119 => a119 | 120 => a120 | 121 => a121 | 122 => a122 | 123 => a123 | 124 => a124
    | 125 => a125 | 126 => a126 | 127 => a127 | _ => d)
    (
      a0 :: a1 :: a2 :: a3 :: a4 :: a5 :: a6 :: a7 :: a8 :: a9 :: a10 :: a11 :: a12 :: a13 :: a14 :: a15 :: a16 ::
      a17 :: a18 :: a19 :: a20 :: a21 :: a22 :: a23 :: a24 :: a25 :: a26 :: a27 :: a28 :: a29 :: a30 :: a31 ::
      a32 :: a33 :: a34 :: a35 :: a36 :: a37 :: a38 :: a39 :: a40 :: a41 :: a42 :: a43 :: a44 :: a45 :: a46 ::
      a47 :: a48 :: a49 :: a50 :: a51 :: a52 :: a53 :: a54 :: a55 :: a56 :: a57 :: a58 :: a59 :: a60 :: a61 ::
      a62 :: a63 :: a64 :: a65 :: a66 :: a67 :: a68 :: a69 :: a70 :: a71 :: a72 :: a73 :: a74 :: a75 :: a76 ::
      a77 :: a78 :: a79 :: a80 :: a81 :: a82 :: a83 :: a84 :: a85 :: a86 :: a87 :: a88 :: a89 :: a90 :: a91 ::
      a92 :: a93 :: a94 :: a95 :: a96 :: a97 :: a98 :: a99 :: a100 :: a101 :: a102 :: a103 :: a104 :: a105 ::
      a106 :: a107 :: a108 :: a109 :: a110 :: a111 :: a112 :: a113 :: a114 :: a115 :: a116 :: a117 :: a118 ::
      a119 :: a120 :: a121 :: a122 :: a123 :: a124 :: a125 :: a126 :: a127 :: []) := by
  refine ⟨rfl, fun i => ?_⟩
  have h : i % 128 < 128 := Nat.mod_lt _ (by omega)
  dsimp only
  generalize i % 128 = x at h ⊢
  interval_cases x <;> rfl

/-- And 128 such runs as a match of the next digit: run `k` is the arm `k`. -/
theorem node
    (f0 f1 f2 f3 f4 f5 f6 f7 f8 f9 f10 f11 f12 f13 f14 f15 f16 f17 f18 f19 f20 f21 f22 f23 f24 f25 f26 f27 f28 f29 f30
    f31 f32 f33 f34 f35 f36 f37 f38 f39 f40 f41 f42 f43 f44 f45 f46 f47 f48 f49 f50 f51 f52 f53 f54 f55 f56 f57 f58
    f59 f60 f61 f62 f63 f64 f65 f66 f67 f68 f69 f70 f71 f72 f73 f74 f75 f76 f77 f78 f79 f80 f81 f82 f83 f84 f85 f86
    f87 f88 f89 f90 f91 f92 f93 f94 f95 f96 f97 f98 f99 f100 f101 f102 f103 f104 f105 f106 f107 f108 f109 f110 f111
    f112 f113 f114 f115 f116 f117 f118 f119 f120 f121 f122 f123 f124 f125 f126 f127 : Nat → BitVec 32) (d : BitVec 32) :
    Node (fun i => match (generalizing := false) i / 128 % 128 with
      | 0 => f0 i | 1 => f1 i | 2 => f2 i | 3 => f3 i | 4 => f4 i | 5 => f5 i | 6 => f6 i | 7 => f7 i | 8 => f8 i
      | 9 => f9 i | 10 => f10 i | 11 => f11 i | 12 => f12 i | 13 => f13 i | 14 => f14 i | 15 => f15 i | 16 => f16 i
      | 17 => f17 i | 18 => f18 i | 19 => f19 i | 20 => f20 i | 21 => f21 i | 22 => f22 i | 23 => f23 i | 24 => f24 i
      | 25 => f25 i | 26 => f26 i | 27 => f27 i | 28 => f28 i | 29 => f29 i | 30 => f30 i | 31 => f31 i | 32 => f32 i
      | 33 => f33 i | 34 => f34 i | 35 => f35 i | 36 => f36 i | 37 => f37 i | 38 => f38 i | 39 => f39 i | 40 => f40 i
      | 41 => f41 i | 42 => f42 i | 43 => f43 i | 44 => f44 i | 45 => f45 i | 46 => f46 i | 47 => f47 i | 48 => f48 i
      | 49 => f49 i | 50 => f50 i | 51 => f51 i | 52 => f52 i | 53 => f53 i | 54 => f54 i | 55 => f55 i | 56 => f56 i
      | 57 => f57 i | 58 => f58 i | 59 => f59 i | 60 => f60 i | 61 => f61 i | 62 => f62 i | 63 => f63 i | 64 => f64 i
      | 65 => f65 i | 66 => f66 i | 67 => f67 i | 68 => f68 i | 69 => f69 i | 70 => f70 i | 71 => f71 i | 72 => f72 i
      | 73 => f73 i | 74 => f74 i | 75 => f75 i | 76 => f76 i | 77 => f77 i | 78 => f78 i | 79 => f79 i | 80 => f80 i
      | 81 => f81 i | 82 => f82 i | 83 => f83 i | 84 => f84 i | 85 => f85 i | 86 => f86 i | 87 => f87 i | 88 => f88 i
      | 89 => f89 i | 90 => f90 i | 91 => f91 i | 92 => f92 i | 93 => f93 i | 94 => f94 i | 95 => f95 i | 96 => f96 i
      | 97 => f97 i | 98 => f98 i | 99 => f99 i | 100 => f100 i | 101 => f101 i | 102 => f102 i | 103 => f103 i
      | 104 => f104 i | 105 => f105 i | 106 => f106 i | 107 => f107 i | 108 => f108 i | 109 => f109 i | 110 => f110 i
      | 111 => f111 i | 112 => f112 i | 113 => f113 i | 114 => f114 i | 115 => f115 i | 116 => f116 i | 117 => f117 i
      | 118 => f118 i | 119 => f119 i | 120 => f120 i | 121 => f121 i | 122 => f122 i | 123 => f123 i | 124 => f124 i
      | 125 => f125 i | 126 => f126 i | 127 => f127 i | _ => d)
    (
      f0 :: f1 :: f2 :: f3 :: f4 :: f5 :: f6 :: f7 :: f8 :: f9 :: f10 :: f11 :: f12 :: f13 :: f14 :: f15 :: f16 ::
      f17 :: f18 :: f19 :: f20 :: f21 :: f22 :: f23 :: f24 :: f25 :: f26 :: f27 :: f28 :: f29 :: f30 :: f31 ::
      f32 :: f33 :: f34 :: f35 :: f36 :: f37 :: f38 :: f39 :: f40 :: f41 :: f42 :: f43 :: f44 :: f45 :: f46 ::
      f47 :: f48 :: f49 :: f50 :: f51 :: f52 :: f53 :: f54 :: f55 :: f56 :: f57 :: f58 :: f59 :: f60 :: f61 ::
      f62 :: f63 :: f64 :: f65 :: f66 :: f67 :: f68 :: f69 :: f70 :: f71 :: f72 :: f73 :: f74 :: f75 :: f76 ::
      f77 :: f78 :: f79 :: f80 :: f81 :: f82 :: f83 :: f84 :: f85 :: f86 :: f87 :: f88 :: f89 :: f90 :: f91 ::
      f92 :: f93 :: f94 :: f95 :: f96 :: f97 :: f98 :: f99 :: f100 :: f101 :: f102 :: f103 :: f104 :: f105 ::
      f106 :: f107 :: f108 :: f109 :: f110 :: f111 :: f112 :: f113 :: f114 :: f115 :: f116 :: f117 :: f118 ::
      f119 :: f120 :: f121 :: f122 :: f123 :: f124 :: f125 :: f126 :: f127 :: []) := by
  refine ⟨rfl, fun i => ?_⟩
  have h : i / 128 % 128 < 128 := Nat.mod_lt _ (by omega)
  dsimp only
  generalize i / 128 % 128 = x at h ⊢
  interval_cases x <;> rfl

/-- A run's entries packed in order. -/
def packRun : List (BitVec 32) → Nat
  | [] => 0
  | a :: l => 2 ^ 64 * packRun l + a.toNat

/-- A part's runs packed in order. -/
def packPart : List (List (BitVec 32)) → Nat
  | [] => 0
  | l :: L => 2 ^ (64 * 128) * packPart L + packRun l

/-- Packing a run of words is the row of their values. -/
theorem packRun_eq (l : List (BitVec 32)) : packRun l = row l.length (fun j => (l.getD j 0).toNat) := by
  induction l with
  | nil => rfl
  | cons a l ih => simp [packRun, ih, row]

/-- The runs one after the other: the packed entries of `f`, from a run's start on. -/
theorem runs_row (q : Nat) (fs : List (Nat → BitVec 32)) (L : List (List (BitVec 32))) (h : List.Forall₂ Leaf fs L) :
    packPart L = row (128 * fs.length) (fun j => (fs.getD (j / 128) 0 (128 * q + j)).toNat) := by
  induction h generalizing q with
  | nil => rfl
  | @cons f l fs L hf _ ih =>
    rw [packPart, ih (q + 1), List.length_cons, show 128 * (fs.length + 1) = 128 + 128 * fs.length from by ring, row_append,
      packRun_eq, hf.1]
    congr 1
    · congr 1
      refine row_congr fun j _ => ?_
      rw [show (128 + j) / 128 = j / 128 + 1 from by omega, List.getD_cons_succ,
        show 128 * (q + 1) + j = 128 * q + (128 + j) from by ring]
    · refine row_congr fun j hj => ?_
      rw [show j / 128 = 0 from by omega, List.getD_cons_zero, hf.2, show (128 * q + j) % 128 = j from by omega]

/-- A part's entries, packed in order. -/
theorem part_row {f : Nat → BitVec 32} {fs : List (Nat → BitVec 32)} {L : List (List (BitVec 32))}
    (hn : Node f fs) (hl : List.Forall₂ Leaf fs L) (g : Nat) :
    packPart L = row (2 ^ 14) (fun j => (f (g * 16384 + j)).toNat) := by
  rw [runs_row (128 * g) fs L hl, hn.1]
  refine row_congr fun j hj => ?_
  rw [hn.2, show (g * 16384 + j) / 128 % 128 = j / 128 from by omega, show 128 * (128 * g) + j = g * 16384 + j from by ring]

end Cert.Table

end
-- ==== Proof.Table.lean ====
/-
  The mask table is the generator's mask. Word `g·16384 + c` of the table holds, at bit `b`, the mask of element
  `g·524288 + b·16384 + c`: whether the word drawn at that counter is at least `threshold`. A part of the table and
  the draws of a block of 16384 counters are each one packed number, so that a block is compared at once (`blockOk`);
  the comparison itself is a computation on numbers.
-/
module

public import proofs.«01_k».proof.Proof.Threefry
public import proofs.«01_k».proof.Proof.Digits
public import proofs.«01_k».proof.KernelIdeal

@[expose] public section

namespace Cert.Table

open Cert.Lanes Cert.Threefry

/-- An element is kept when the word drawn at it is at least this: the top 23 bits at least 838861. -/
def threshold : Nat := 429496832

/-- The elements' number. -/
def elements : Nat := 2684354

/-- How many of block `B`'s 16384 counters are elements. -/
def live (B : Nat) : Nat := min (2 ^ 14) (elements - B * 2 ^ 14)

/-- Block `B`'s counters, packed. -/
def counters (B : Nat) : Nat := B * 2 ^ 14 * ones 14 + halves (fun i => i) 14 0

/-- The mask of block `B`, packed: what is drawn, plus what takes the threshold to 2³², carries into bit 32. -/
def maskRow (B : Nat) : Nat :=
  ((draw (packed 14) (counters B) + (2 ^ 32 - threshold) * ones 14) >>> 32) &&& ones 14

/-- Bit `b` of the words of part `g` is the mask of block `32·g + b`, as far as the elements go. -/
def blockOk (T g b : Nat) : Bool :=
  Nat.beq (((T >>> b) &&& ones 14) % 2 ^ (64 * live (32 * g + b))) (maskRow (32 * g + b) % 2 ^ (64 * live (32 * g + b)))

/-- So for each of the 32 bits. -/
def partOk (T g : Nat) : Bool := (List.range 32).all fun b => blockOk T g b

/-- Bit `b` of each entry of `f` in part `g` is the mask of its element. -/
def Good (g : Nat) (f : Nat → BitVec 32) : Prop :=
  ∀ b c, b < 32 → c < 16384 → g * 524288 + b * 16384 + c < elements →
    ((f (g * 16384 + c)).toNat >>> b) &&& 1
      = if threshold ≤ (draw word (BitVec.ofNat 32 (g * 524288 + b * 16384 + c))).toNat then 1 else 0

/-- The packed counters of a run are the row of the 16384 counters from the run's start. -/
theorem counters_eq (B : Nat) (hB : B < 192) : counters B = enc 14 fun j => BitVec.ofNat 32 (B * 16384 + j % 16384) := by
  unfold counters enc
  rw [halves_eq, mul_ones_eq, row_add]
  refine row_congr fun j hj => ?_
  rw [BitVec.toNat_ofNat, Nat.mod_eq_of_lt, Nat.mod_eq_of_lt] <;> omega

/-- A one in every lane. -/
theorem ones_mask : ones 14 = row (2 ^ 14) fun _ => 2 ^ 1 - 1 := ones_eq 14

/-- The packed mask's entries. -/
theorem maskRow_eq (B : Nat) (hB : B < 192) :
    maskRow B = row (2 ^ 14) fun j =>
      if threshold ≤ (draw word (BitVec.ofNat 32 (B * 16384 + j % 16384))).toNat then 1 else 0 := by
  unfold maskRow
  rw [counters_eq B hB, draw_packed, mul_ones_eq]
  unfold enc
  rw [row_add, ones_mask, row_shiftRight_and _ 32 1 (by omega)]
  · refine row_congr fun j hj => ?_
    have := (draw word (BitVec.ofNat 32 (B * 16384 + j % 16384))).isLt
    rw [Nat.and_two_pow_sub_one_eq_mod, Nat.shiftRight_eq_div_pow]
    generalize (draw word (BitVec.ofNat 32 (B * 16384 + j % 16384))).toNat = d at *
    unfold threshold
    split <;> omega
  · intro j
    have := (draw word (BitVec.ofNat 32 (B * 16384 + j % 16384))).isLt
    show _ + (2 ^ 32 - threshold) < 2 ^ 64
    unfold threshold
    omega

/-- The computation says what it should: a part that passes is good. -/
theorem good_of {f : Nat → BitVec 32} {fs : List (Nat → BitVec 32)} {L : List (List (BitVec 32))} (g : Nat)
    (hg : g < 6) (hn : Node f fs) (hl : List.Forall₂ Leaf fs L) (h : partOk (packPart L) g = true) : Good g f := by
  intro b c hb hc he
  have hB : blockOk (packPart L) g b = true := List.all_eq_true.mp h b (List.mem_range.mpr hb)
  have hB := Nat.eq_of_beq_eq_true hB
  have hf : Fits fun j => (f (g * 16384 + j)).toNat := fits_toNat fun j => f (g * 16384 + j)
  have hlive : live (32 * g + b) ≤ 2 ^ 14 := Nat.min_le_left _ _
  have hc' : c < live (32 * g + b) := by
    unfold live elements at *
    omega
  have f1 : Fits fun j => ((f (g * 16384 + j)).toNat >>> b) &&& (2 ^ 1 - 1) := fun j =>
    lt_of_le_of_lt Nat.and_le_right (by norm_num)
  have f2 : Fits fun j => if threshold ≤ (draw word (BitVec.ofNat 32 ((32 * g + b) * 16384 + j % 16384))).toNat then 1 else 0 :=
    fun j => by dsimp only; split <;> norm_num
  rw [part_row hn hl g, maskRow_eq _ (by omega), ones_mask, row_shiftRight_and _ b 1 (by omega) hf, row_mod hlive f1,
    row_mod hlive f2] at hB
  have := row_inj f1 f2 hB c hc'
  rw [show (32 * g + b) * 16384 + c % 16384 = g * 524288 + b * 16384 + c from by omega] at this
  exact this

/-- Every part of the printed table passes. -/
theorem parts : Good 0 KernelIdeal.lit0t1_0 ∧ Good 1 KernelIdeal.lit0t1_1 ∧ Good 2 KernelIdeal.lit0t1_2
    ∧ Good 3 KernelIdeal.lit0t1_3 ∧ Good 4 KernelIdeal.lit0t1_4 ∧ Good 5 KernelIdeal.lit0t1_5 := by
  refine ⟨?_, ?_, ?_, ?_, ?_, ?_⟩
  all_goals
    apply good_of _ (by decide) (node ..)
    case hl =>
      iterate 128 apply List.Forall₂.cons (leaf ..)
      exact List.Forall₂.nil
    decide +kernel

/-- The table holds the mask: bit `b` of word `g·16384 + c` is 1 when the word drawn at element
    `g·524288 + b·16384 + c` reaches the threshold, and 0 when it does not. -/
theorem table_mask (g b c : Nat) (hg : g < 6) (hb : b < 32) (hc : c < 16384)
    (he : g * 524288 + b * 16384 + c < elements) :
    ((KernelIdeal.lit0t (g * 16384 + c)).toNat >>> b) &&& 1
      = if threshold ≤ (draw word (BitVec.ofNat 32 (g * 524288 + b * 16384 + c))).toNat then 1 else 0 := by
  obtain ⟨h0, h1, h2, h3, h4, h5⟩ := parts
  have hd : (g * 16384 + c) / 16384 = g := by omega
  unfold KernelIdeal.lit0t
  rw [hd]
  interval_cases g
  · exact h0 b c hb hc he
  · exact h1 b c hb hc he
  · exact h2 b c hb hc he
  · exact h3 b c hb hc he
  · exact h4 b c hb hc he
  · exact h5 b c hb hc he

end Cert.Table

end
-- ==== Proof.MaskValue.lean ====
/-
  The mask's value for a drawn word, on the extended reals: the word's upper 23 bits, over 2^23, are the uniform number; nine
  tenths are added and the sum is rounded down. So the mask is one exactly when the word reaches the threshold.
-/
module

public import proofs.«01_k».proof.Proof.RefRun
public import proofs.«01_k».proof.Proof.Table
public import Idealize.ShloMosaic.PureOps.Ideal.Laws

@[expose] public section

noncomputable section

namespace Cert.MaskValue

open Idealize.ShloMosaic Cert.RefRun Cert.Table

/-- A word's upper 23 bits under the exponent of the numbers from 1 to 2. -/
theorem unit_pattern (u : BitVec 32) : ((u >>> 9) ||| 1065353216#32).toNat = 1065353216 + u.toNat / 512 := by
  have h : u.toNat / 512 < 2 ^ 23 := by have := u.isLt; omega
  rw [BitVec.toNat_or, BitVec.toNat_ushiftRight, Nat.shiftRight_eq_div_pow, Nat.lor_comm]
  exact (Nat.two_pow_add_eq_or_of_lt h 127).symm

/-- The number such a pattern stands for. -/
theorem ofBits_unit (w : BitVec 32) (f : Nat) (hw : w.toNat = 1065353216 + f) (hf : f < 2 ^ 23) :
    Ideal.ofBits .f32 w = (((8388608 + f : ℝ) / 8388608 : ℝ) : EReal) := by
  have h1 : (w.extractLsb' 31 1 == 1#1) = false := by
    have : w.extractLsb' 31 1 = 0#1 := by
      apply BitVec.eq_of_toNat_eq
      rw [BitVec.extractLsb'_toNat, hw, Nat.shiftRight_eq_div_pow]
      show (1065353216 + f) / 2 ^ 31 % 2 ^ 1 = 0
      omega
    rw [this]; rfl
  have h2 : (w.extractLsb' 23 8).toNat = 127 := by
    rw [BitVec.extractLsb'_toNat, hw, Nat.shiftRight_eq_div_pow]; omega
  have h3 : (w.extractLsb' 0 23).toNat = f := by
    rw [BitVec.extractLsb'_toNat, hw, Nat.shiftRight_eq_div_pow]; omega
  show Ideal.ieee 8 23 w = _
  unfold Ideal.ieee
  simp only [Nat.reduceAdd, h1, h2, h3]
  rw [if_neg (by norm_num), if_neg (by norm_num)]
  refine congrArg (fun r : ℝ => (r : EReal)) ?_
  push_cast
  norm_num [div_eq_mul_inv]

/-- Nine tenths, as the reference writes it. -/
theorem ofBits_keep : Ideal.ofBits .f32 0x3F666666#32 = ((7549747 / 8388608 : ℝ) : EReal) := by
  simp [Ideal.ofBits, Ideal.ieee, -EReal.coe_mul]; norm_num

/-- One. -/
theorem ofBits_one : Ideal.ofBits .f32 0x3F800000#32 = ((1 : ℝ) : EReal) := by
  simp [Ideal.ofBits, Ideal.ieee, -EReal.coe_mul]; norm_num

/-- Zero. -/
theorem ofBits_zero : Ideal.ofBits .f32 0x00000000#32 = ((0 : ℝ) : EReal) := by
  simp [Ideal.ofBits, Ideal.ieee]

/-- The uniform number is the word's upper 23 bits over 2^23. -/
theorem uniform_eq (u : BitVec 32) : uniform (F := Ideal) u = (((u.toNat / 512 : ℕ) / 8388608 : ℝ) : EReal) := by
  have hf : u.toNat / 512 < 2 ^ 23 := by have := u.isLt; omega
  unfold uniform
  simp only [Ideal.ofBits_def, Ideal.maximumf_def, Ideal.addf_def, Ideal.mulf_def, Ideal.subf_def,
    ofBits_unit _ _ (unit_pattern u) hf, ofBits_one, ofBits_zero]
  rw [← EReal.coe_sub, ← EReal.coe_sub, ← EReal.coe_mul, ← EReal.coe_add]
  have h0 : (0 : ℝ) ≤ ((u.toNat / 512 : ℕ) : ℝ) / 8388608 := by positivity
  have he : ((8388608 + ((u.toNat / 512 : ℕ) : ℝ)) / 8388608 - 1) * (1 - 0) + 0 = ((u.toNat / 512 : ℕ) : ℝ) / 8388608 := by
    field_simp
    ring
  rw [he]
  exact max_eq_right (EReal.coe_le_coe_iff.mpr h0)

/-- The mask is one exactly when the word reaches the threshold. -/
theorem keep_eq (u : BitVec 32) : keep (F := Ideal) u = if threshold ≤ u.toNat then (1 : EReal) else 0 := by
  have hf : u.toNat / 512 < 2 ^ 23 := by have := u.isLt; omega
  unfold keep
  rw [Ideal.hostUnary_floor_def, Ideal.addf_def, uniform_eq, Ideal.ofBits_def, ofBits_keep, ← EReal.coe_add]
  have hfl : ∀ n : ℤ, (n : ℝ) ≤ ((u.toNat / 512 : ℕ) : ℝ) / 8388608 + 7549747 / 8388608 →
      ((u.toNat / 512 : ℕ) : ℝ) / 8388608 + 7549747 / 8388608 < n + 1 →
      Ideal.liftRound Int.floor ((((u.toNat / 512 : ℕ) : ℝ) / 8388608 + 7549747 / 8388608 : ℝ) : EReal) = ((n : ℝ) : EReal) := by
    intro n h1 h2
    rw [Ideal.liftRound_coe, Int.floor_eq_iff.mpr ⟨h1, h2⟩]
  have hf' : ((u.toNat / 512 : ℕ) : ℝ) + 1 ≤ 8388608 := by exact_mod_cast hf
  split_ifs with h
  · have hk : (838861 : ℝ) ≤ ((u.toNat / 512 : ℕ) : ℝ) := by
      have : 838861 ≤ u.toNat / 512 := by unfold threshold at h; omega
      exact_mod_cast this
    refine (hfl 1 ?_ ?_).trans (by norm_num)
    · push_cast; linarith
    · push_cast; linarith
  · have hk : ((u.toNat / 512 : ℕ) : ℝ) + 1 ≤ 838861 := by
      have : u.toNat / 512 + 1 ≤ 838861 := by unfold threshold at h; omega
      exact_mod_cast this
    refine (hfl 0 ?_ ?_).trans (by norm_num)
    · push_cast; have : (0 : ℝ) ≤ ((u.toNat / 512 : ℕ) : ℝ) := by positivity
      linarith
    · push_cast; linarith

end Cert.MaskValue

end
-- ==== Proof.Equation.lean ====
/-
  The kernel's value result is the reference's, on the extended reals: the table's bit for an entry is the mask that the
  reference draws for it, and the order of the two products does not matter.
-/
module

public import proofs.«01_k».proof.Proof.KernelValue
public import proofs.«01_k».proof.Proof.MaskValue

@[expose] public section

noncomputable section

namespace Cert.Equation

open Idealize.ShloMosaic

/-- The bit of the table's word for an entry, as a number, is the mask that the reference draws for the entry. -/
theorem bit_eq (n : Nat) (hn : n < Cert.Table.elements) :
    FloatOps.uitofp (F := Ideal) .f32 ((KernelValue.word n >>> (n % 524288 / 16384)) &&& 1#32)
      = RefRun.keep (F := Ideal) (Threefry.draw Threefry.word (BitVec.ofNat 32 n)) := by
  have hn' : n < 2684354 := hn
  have e : n / 524288 * 524288 + n % 524288 / 16384 * 16384 + n % 16384 = n := by omega
  have h := Cert.Table.table_mask (n / 524288) (n % 524288 / 16384) (n % 16384) (by omega) (by omega) (by omega) (by rw [e]; exact hn)
  rw [e] at h
  have hb : ((KernelValue.word n >>> (n % 524288 / 16384)) &&& 1#32).toNat
      = (Cert.KernelIdeal.lit0t (n / 524288 * 16384 + n % 16384)).toNat >>> (n % 524288 / 16384) &&& 1 := by
    rw [BitVec.toNat_and, BitVec.toNat_ushiftRight]; rfl
  rw [MaskValue.keep_eq]
  show (((((KernelValue.word n >>> (n % 524288 / 16384)) &&& 1#32).toNat : ℕ) : ℝ) : EReal) = _
  rw [hb, h]
  split_ifs <;> simp

/-- The kernel's value result is the reference's. -/
theorem masked_eq (x : FVec Ideal Cert.KernelIdeal.S2684354 .f32) : KernelValue.masked (F := Ideal) x = RefRun.dropped (F := Ideal) x := by
  funext i
  unfold KernelValue.masked RefRun.dropped
  rw [bit_eq (i 0).val (i 0).isLt]
  simp only [Ideal.mulf_def]
  exact (mul_assoc _ _ _).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.BitsFrame
public import proofs.«01_k».proof.Proof.Equation
public import Idealize.ShloMosaic.Adequacy
public import Idealize.ShloMosaic.Init

@[expose] public section

noncomputable section

namespace Cert.Proof

open Idealize.ShloMosaic Idealize.SL.Sem

/-- The kernel and the reference, from memories that agree on the arguments, end with equal results: the indices as given, and
    the masked and scaled values. -/
theorem results_agree [hK : Cert.KernelIdeal.Facts] [hR : Cert.ReferenceIdeal.Facts] :
    Cert.algebraic_KernelIdeal_ReferenceIdeal := by
  intro m g m' g' _ hagree
  refine ⟨fun c => m ((c.tc : Thread _ _).loc Cert.KernelIdeal.main_arg0),
    fun c => Cert.KernelValue.masked (F := Ideal) (m ((c.tc : Thread _ _).loc Cert.KernelIdeal.main_arg1)), ?_, ?_⟩
  · refine θ_run_mono (Cert.KernelValue.run (F := Ideal) m g) fun r h c => ?_
    obtain ⟨hv, hp, h0, h1⟩ := h.1 c
    exact ⟨hp, hv, h0, h1⟩
  · refine θ_run_mono (Cert.RefRun.run (F := Ideal) m' g') fun r h c => ?_
    obtain ⟨hv, h0, h1⟩ := h.1 c
    obtain ⟨a0, a1⟩ := hagree c
    refine ⟨h0.trans a0, hv.trans ?_, h0, h1⟩
    rw [a1]
    exact (Cert.Equation.masked_eq _).symm

/-- Everything claimed. -/
theorem claim : Cert.Claim := ⟨Cert.Kernel.Gen.facts, Cert.KernelIdeal.Gen.facts, Cert.ReferenceIdeal.Gen.facts,
  fun m g _ => Cert.BitsFrame.run (F := Bits) m g,
  fun m g _ => θ_run_mono (Cert.KernelValue.run (F := Ideal) m g) fun _ h => ⟨fun c => (h.1 c).2.2, h.2⟩,
  fun m g _ => letI := Cert.ReferenceIdeal.Gen.facts
    θ_run_mono (Cert.RefRun.run (F := Ideal) m g) fun _ h => ⟨fun c => (h.1 c).2, h.2⟩,
  trivial,
  letI := Cert.KernelIdeal.Gen.facts
  letI := Cert.ReferenceIdeal.Gen.facts
  results_agree⟩

end Cert.Proof

end
